-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S6x4096x1152 : Shape := ⟨3, ![6, 4096, 1152]⟩
abbrev S6x4096x12544 : Shape := ⟨3, ![6, 4096, 12544]⟩
abbrev S1152x12544 : Shape := ⟨2, ![1152, 12544]⟩
abbrev S_ : Shape := ⟨0, ![]⟩

class Facts : Prop where
  bcast_S_S6x4096x1152 : S_.BroadcastsInDim S6x4096x1152 (![] : Fin 0 → Fin S6x4096x1152.rank)
  bcast_S_S6x4096x12544 : S_.BroadcastsInDim S6x4096x12544 (![] : Fin 0 → Fin S6x4096x12544.rank)

variable [Facts]

def fn {F : FTy → Type} [FloatOps F] (main_arg0 : FVec F S6x4096x1152 .bf16) (main_arg1 : FVec F S6x4096x12544 .bf16) (main_arg2 : FVec F S1152x12544 .f32) : IVec S6x4096x1152 1 × IVec S6x4096x12544 1 :=
  let main_v0 : FVec F S6x4096x1152 .bf16 := Host.absf main_arg0
  let main_cst : FVec F S_ .bf16 := constant S_ .bf16 0x7F7F#16
  let main_v1 : FVec F S6x4096x1152 .bf16 := broadcastInDim S6x4096x1152 ![] bcast_S_S6x4096x1152 main_cst
  let main_v2 : IVec S6x4096x1152 1 := cmpf .ole main_v0 main_v1
  let main_v3 : FVec F S6x4096x1152 .bf16 := Host.absf main_arg0
  let main_cst_0 : FVec F S_ .bf16 := constant S_ .bf16 0x7F80#16
  let main_v4 : FVec F S6x4096x1152 .bf16 := broadcastInDim S6x4096x1152 ![] bcast_S_S6x4096x1152 main_cst_0
  let main_v5 : IVec S6x4096x1152 1 := cmpf .oeq main_v3 main_v4
  let main_v6 : IVec S6x4096x1152 1 := ori main_v2 main_v5
  let main_v7 : FVec F S6x4096x12544 .bf16 := Host.absf main_arg1
  let main_cst_1 : FVec F S_ .bf16 := constant S_ .bf16 0x7F7F#16
  let main_v8 : FVec F S6x4096x12544 .bf16 := broadcastInDim S6x4096x12544 ![] bcast_S_S6x4096x12544 main_cst_1
  let main_v9 : IVec S6x4096x12544 1 := cmpf .ole main_v7 main_v8
  let main_v10 : FVec F S6x4096x12544 .bf16 := Host.absf main_arg1
  let main_cst_2 : FVec F S_ .bf16 := constant S_ .bf16 0x7F80#16
  let main_v11 : FVec F S6x4096x12544 .bf16 := broadcastInDim S6x4096x12544 ![] bcast_S_S6x4096x12544 main_cst_2
  let main_v12 : IVec S6x4096x12544 1 := cmpf .oeq main_v10 main_v11
  let main_v13 : IVec S6x4096x12544 1 := ori main_v9 main_v12
  (main_v6, main_v13)
-- ==== Kernel.lean ====
abbrev S6x4096x1152 : Shape := ⟨3, ![6, 4096, 1152]⟩
abbrev S6x4096x12544 : Shape := ⟨3, ![6, 4096, 12544]⟩
abbrev S1152x12544 : Shape := ⟨2, ![1152, 12544]⟩
abbrev S24576x1152 : Shape := ⟨2, ![24576, 1152]⟩
abbrev S24576x12544 : Shape := ⟨2, ![24576, 12544]⟩
abbrev S192x1152 : Shape := ⟨2, ![192, 1152]⟩
abbrev S1152x24576 : Shape := ⟨2, ![1152, 24576]⟩
abbrev S1024x1152 : Shape := ⟨2, ![1024, 1152]⟩
abbrev S8x1152 : Shape := ⟨2, ![8, 1152]⟩
abbrev S1152x1024 : Shape := ⟨2, ![1152, 1024]⟩
abbrev S128x1152 : Shape := ⟨2, ![128, 1152]⟩
abbrev S8x16x1152 : Shape := ⟨3, ![8, 16, 1152]⟩
abbrev S16x1152 : Shape := ⟨2, ![16, 1152]⟩
abbrev S1152 : Shape := ⟨1, ![1152]⟩
abbrev S1x1152 : Shape := ⟨2, ![1, 1152]⟩
abbrev S256x1152 : Shape := ⟨2, ![256, 1152]⟩
abbrev S1152x128 : Shape := ⟨2, ![1152, 128]⟩
abbrev S192x12544 : Shape := ⟨2, ![192, 12544]⟩
abbrev S1152x1792 : Shape := ⟨2, ![1152, 1792]⟩
abbrev S1024x1792 : Shape := ⟨2, ![1024, 1792]⟩
abbrev S8x1792 : Shape := ⟨2, ![8, 1792]⟩
abbrev S128x256 : Shape := ⟨2, ![128, 256]⟩
abbrev S8x16x256 : Shape := ⟨3, ![8, 16, 256]⟩
abbrev S16x256 : Shape := ⟨2, ![16, 256]⟩
abbrev S256 : Shape := ⟨1, ![256]⟩
abbrev S1x256 : Shape := ⟨2, ![1, 256]⟩
abbrev S256x256 : Shape := ⟨2, ![256, 256]⟩
abbrev S1152x256 : Shape := ⟨2, ![1152, 256]⟩
abbrev S1024x256 : Shape := ⟨2, ![1024, 256]⟩

abbrev nBuf : Space → Nat
  | .hbm => 13
  | .vmem => 20
  | .smem => 0
  | _ => 0

abbrev bufTy : (tb : Table) → Fin (tcTables nBuf tb) → BufTy
  | .hbm, ⟨0, _⟩ => ⟨S6x4096x1152, .bf16⟩
  | .hbm, ⟨1, _⟩ => ⟨S6x4096x12544, .bf16⟩
  | .hbm, ⟨2, _⟩ => ⟨S1152x12544, .f32⟩
  | .hbm, ⟨3, _⟩ => ⟨S24576x1152, .bf16⟩
  | .hbm, ⟨4, _⟩ => ⟨S24576x12544, .bf16⟩
  | .hbm, ⟨5, _⟩ => ⟨S24576x1152, .fp8e4m3⟩
  | .hbm, ⟨6, _⟩ => ⟨S192x1152, .f32⟩
  | .hbm, ⟨7, _⟩ => ⟨S1152x24576, .bf16⟩
  | .hbm, ⟨8, _⟩ => ⟨S1152x12544, .f32⟩
  | .hbm, ⟨9, _⟩ => ⟨S24576x12544, .fp8e5m2⟩
  | .hbm, ⟨10, _⟩ => ⟨S192x12544, .f32⟩
  | .hbm, ⟨11, _⟩ => ⟨S6x4096x1152, .fp8e4m3⟩
  | .hbm, ⟨12, _⟩ => ⟨S6x4096x12544, .fp8e5m2⟩
  | .local _ .vmem, ⟨0, _⟩ => ⟨S1024x1152, .bf16⟩
  | .local _ .vmem, ⟨1, _⟩ => ⟨S1024x1152, .bf16⟩
  | .local _ .vmem, ⟨2, _⟩ => ⟨S1024x1152, .fp8e4m3⟩
  | .local _ .vmem, ⟨3, _⟩ => ⟨S1024x1152, .fp8e4m3⟩
  | .local _ .vmem, ⟨4, _⟩ => ⟨S8x1152, .f32⟩
  | .local _ .vmem, ⟨5, _⟩ => ⟨S8x1152, .f32⟩
  | .local _ .vmem, ⟨6, _⟩ => ⟨S1152x1024, .bf16⟩
  | .local _ .vmem, ⟨7, _⟩ => ⟨S1152x1024, .bf16⟩
  | .local _ .vmem, ⟨8, _⟩ => ⟨S1152x1792, .f32⟩
  | .local _ .vmem, ⟨9, _⟩ => ⟨S1152x1024, .bf16⟩
  | .local _ .vmem, ⟨10, _⟩ => ⟨S1152x1024, .bf16⟩
  | .local _ .vmem, ⟨11, _⟩ => ⟨S1024x1792, .bf16⟩
  | .local _ .vmem, ⟨12, _⟩ => ⟨S1024x1792, .bf16⟩
  | .local _ .vmem, ⟨13, _⟩ => ⟨S1152x1792, .f32⟩
  | .local _ .vmem, ⟨14, _⟩ => ⟨S1152x1792, .f32⟩
  | .local _ .vmem, ⟨15, _⟩ => ⟨S1024x1792, .fp8e5m2⟩
  | .local _ .vmem, ⟨16, _⟩ => ⟨S1024x1792, .fp8e5m2⟩
  | .local _ .vmem, ⟨17, _⟩ => ⟨S8x1792, .f32⟩
  | .local _ .vmem, ⟨18, _⟩ => ⟨S8x1792, .f32⟩
  | .local _ .vmem, ⟨19, _⟩ => ⟨S1024x1792, .bf16⟩
  | _, _ => ⟨S6x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1152 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![7, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S1152x1792 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1152x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1152x1792 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1792 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x1792 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S6x4096x1152 : Shape := ⟨3, ![6, 4096, 1152]⟩
abbrev S6x4096x12544 : Shape := ⟨3, ![6, 4096, 12544]⟩
abbrev S1152x12544 : Shape := ⟨2, ![1152, 12544]⟩
abbrev S24576x1152 : Shape := ⟨2, ![24576, 1152]⟩
abbrev S24576x12544 : Shape := ⟨2, ![24576, 12544]⟩
abbrev S192x1152 : Shape := ⟨2, ![192, 1152]⟩
abbrev S192x12544 : Shape := ⟨2, ![192, 12544]⟩
abbrev S192x128x1152 : Shape := ⟨3, ![192, 128, 1152]⟩
abbrev S192x1x1152 : Shape := ⟨3, ![192, 1, 1152]⟩
abbrev S192x128x12544 : Shape := ⟨3, ![192, 128, 12544]⟩
abbrev S192x1x12544 : Shape := ⟨3, ![192, 1, 12544]⟩
abbrev S1152x24576 : Shape := ⟨2, ![1152, 24576]⟩

abbrev nBuf : Space → Nat
  | .hbm => 12
  | .vmem => 8
  | .smem => 0
  | _ => 0

abbrev bufTy : (tb : Table) → Fin (tcTables nBuf tb) → BufTy
  | .hbm, ⟨0, _⟩ => ⟨S6x4096x1152, .bf16⟩
  | .hbm, ⟨1, _⟩ => ⟨S6x4096x12544, .bf16⟩
  | .hbm, ⟨2, _⟩ => ⟨S1152x12544, .f32⟩
  | .hbm, ⟨3, _⟩ => ⟨S24576x1152, .bf16⟩
  | .hbm, ⟨4, _⟩ => ⟨S24576x12544, .bf16⟩
  | .hbm, ⟨5, _⟩ => ⟨S1152x12544, .f32⟩
  | .hbm, ⟨6, _⟩ => ⟨S24576x1152, .fp8e4m3⟩
  | .hbm, ⟨7, _⟩ => ⟨S192x1152, .f32⟩
  | .hbm, ⟨8, _⟩ => ⟨S24576x12544, .fp8e5m2⟩
  | .hbm, ⟨9, _⟩ => ⟨S192x12544, .f32⟩
  | .hbm, ⟨10, _⟩ => ⟨S6x4096x1152, .fp8e4m3⟩
  | .hbm, ⟨11, _⟩ => ⟨S6x4096x12544, .fp8e5m2⟩
  | .local _ .vmem, ⟨0, _⟩ => ⟨S24576x1152, .bf16⟩
  | .local _ .vmem, ⟨1, _⟩ => ⟨S24576x12544, .bf16⟩
  | .local _ .vmem, ⟨2, _⟩ => ⟨S1152x12544, .f32⟩
  | .local _ .vmem, ⟨3, _⟩ => ⟨S1152x12544, .f32⟩
  | .local _ .vmem, ⟨4, _⟩ => ⟨S24576x1152, .fp8e4m3⟩
  | .local _ .vmem, ⟨5, _⟩ => ⟨S192x1152, .f32⟩
  | .local _ .vmem, ⟨6, _⟩ => ⟨S24576x12544, .fp8e5m2⟩
  | .local _ .vmem, ⟨7, _⟩ => ⟨S192x12544, .f32⟩
  | _, _ => ⟨S6x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x12544 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x12544 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x12544 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x12544 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x12544 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/- The power-of-two scale of a group, as numbers: the kernel finds the exponent field by comparing with the 256 floats of
   zero mantissa; the reference takes the floor of a logarithm. Both give the same scale and the same inverse. -/
module

public import Idealize.ShloMosaic.Lib.Pointwise
public import Idealize.ShloMosaic.Lib.IdealHost

@[expose] public section

noncomputable section

namespace Cert.Scale

open Idealize Idealize.ShloMosaic

/-! ## The two sides' definitions -/

/-- The float of exponent field `e` and zero mantissa. -/
def thr (e : BitVec 32) : EReal := Ideal.ofBits .f32 (IntOp.shli .vector e 23#32)

/-- The largest exponent field whose float does not exceed `r`. -/
def raw (r : EReal) : BitVec 32 :=
  Finset.fold IntOp.maxsi 2147483648#32
    (fun x : Fin 256 => if thr (BitVec.ofNat 32 x.val) ≤ r then BitVec.ofNat 32 x.val else 0#32) Finset.univ

/-- The field used: 126 in place of the fields of zero and of infinity. -/
def fix (n : BitVec 32) : BitVec 32 :=
  Scalar.select (IntOp.andi (IntOp.cmpi .sgt n 0#32) (IntOp.cmpi .slt n 255#32)) n 126#32

/-- The kernel's scale for the ratio `r`. -/
def scaleK (r : EReal) : EReal := thr (IntOp.addi (fix (raw r)) 1#32)

/-- The kernel's inverse scale for the ratio `r`. -/
def invK (r : EReal) : EReal := thr (IntOp.subi 253#32 (fix (raw r)))

/-- The reference's exponent for the ratio `r`. -/
def expR (r : EReal) : EReal :=
  Scalar.select
    (IntOp.andi (BitVec.ofBool (decide (Ideal.ofBits .f32 0x00800000#32 ≤ r)))
      (BitVec.ofBool (decide (r < Ideal.ofBits .f32 0x7F800000#32))))
    (Ideal.liftRound Int.floor (Ideal.div (Ideal.log r) (Ideal.log (Ideal.ofBits .f32 0x40000000#32))) + 1) 0

/-- The reference's scale for the ratio `r`. -/
def scaleR (r : EReal) : EReal := Ideal.exp2 (expR r)

/-- The reference's inverse scale for the ratio `r`. -/
def invR (r : EReal) : EReal := Ideal.exp2 (0 - expR r)

/-- The largest absolute value of a group's column. -/
def amax (f : Fin 128 → EReal) : EReal := Finset.univ.fold max ⊥ fun k => max (f k) (-f k)

/-! ## Constants -/

theorem bot_bf16 : Ideal.ofBits .bf16 0xFF80#16 = ⊥ := by
  simp [Ideal.ofBits, Ideal.ieee]

theorem bot_f32 : Ideal.ofBits .f32 0xFF800000#32 = ⊥ := by
  simp [Ideal.ofBits, Ideal.ieee]

theorem top_f32 : Ideal.ofBits .f32 0x7F800000#32 = ⊤ := by
  simp [Ideal.ofBits, Ideal.ieee]

theorem top_bf16 : Ideal.ofBits .bf16 0x7F80#16 = ⊤ := by
  simp [Ideal.ofBits, Ideal.ieee]

theorem two_f32 : Ideal.ofBits .f32 0x40000000#32 = ((2 : ℝ) : EReal) := by
  simp [Ideal.ofBits, Ideal.ieee, -EReal.coe_mul] <;> norm_num

theorem tiny_f32 : Ideal.ofBits .f32 0x00800000#32 = (((2 : ℝ) ^ (-126 : ℤ) : ℝ) : EReal) := by
  simp [Ideal.ofBits, Ideal.ieee, -EReal.coe_mul] <;> norm_num

theorem max_bf16 : Ideal.ofBits .bf16 0x7F7F#16 = ((255 * (2 : ℝ) ^ (120 : ℤ) : ℝ) : EReal) := by
  simp [Ideal.ofBits, Ideal.ieee, -EReal.coe_mul] <;> norm_num

/-- The factor of x's groups. -/
theorem factor_x : Ideal.ofBits .f32 0x3B124925#32 = ((9586981 * (2 : ℝ) ^ (-32 : ℤ) : ℝ) : EReal) := by
  simp [Ideal.ofBits, Ideal.ieee, -EReal.coe_mul] <;> norm_num

/-- The factor of dy's groups. -/
theorem factor_y : Ideal.ofBits .f32 0x37924925#32 = ((9586981 * (2 : ℝ) ^ (-39 : ℤ) : ℝ) : EReal) := by
  simp [Ideal.ofBits, Ideal.ieee, -EReal.coe_mul] <;> norm_num

/-- The limits of the codes are the same numbers in both float types. -/
theorem hi_x : Ideal.ofBits .bf16 0x43E0#16 = Ideal.ofBits .f32 0x43E00000#32 := by
  simp [Ideal.ofBits, Ideal.ieee, -EReal.coe_mul] <;> norm_num

theorem lo_x : Ideal.ofBits .bf16 0xC3E0#16 = Ideal.ofBits .f32 0xC3E00000#32 := by
  simp [Ideal.ofBits, Ideal.ieee, -EReal.coe_mul] <;> norm_num

theorem hi_y : Ideal.ofBits .bf16 0x4760#16 = Ideal.ofBits .f32 0x47600000#32 := by
  simp [Ideal.ofBits, Ideal.ieee, -EReal.coe_mul] <;> norm_num

theorem lo_y : Ideal.ofBits .bf16 0xC760#16 = Ideal.ofBits .f32 0xC7600000#32 := by
  simp [Ideal.ofBits, Ideal.ieee, -EReal.coe_mul] <;> norm_num

/-! ## The thresholds -/

theorem shift_fields : ∀ e : Fin 256,
    (IntOp.shli .vector (BitVec.ofNat 32 e.val) 23#32).extractLsb' 31 1 = 0#1
    ∧ ((IntOp.shli .vector (BitVec.ofNat 32 e.val) 23#32).extractLsb' 23 8).toNat = e.val
    ∧ ((IntOp.shli .vector (BitVec.ofNat 32 e.val) 23#32).extractLsb' 0 23).toNat = 0 := by
  decide +kernel

theorem thr_eq (e : ℕ) (he : e < 256) : thr (BitVec.ofNat 32 e) =
    if e = 255 then ⊤ else if e = 0 then 0 else (((2 : ℝ) ^ ((e : ℤ) - 127) : ℝ) : EReal) := by
  obtain ⟨h1, h2, h3⟩ := shift_fields ⟨e, he⟩
  dsimp only at h1 h2 h3
  show Ideal.ieee 8 23 _ = _
  unfold Ideal.ieee
  dsimp only
  rw [h1, h2, h3]
  by_cases h255 : e = 255
  · simp [h255]
  by_cases h0 : e = 0
  · simp [h0]
  have h255' : ¬ e = 2 ^ 8 - 1 := h255
  rw [if_neg h255', if_neg h0, if_neg h255, if_neg h0]
  refine congrArg Real.toEReal ?_
  have hs : (0#1 == 1#1) = false := by decide
  have hb : (e : ℤ) - 127 = (23 : ℤ) + ((e : ℤ) - (2 ^ (8 - 1) - 1) - (23 : ℕ)) := by norm_num
  rw [hs, hb, zpow_add₀ (by norm_num : (2 : ℝ) ≠ 0)]
  norm_num

theorem thr_zero : thr (BitVec.ofNat 32 0) = 0 := by
  rw [thr_eq 0 (by norm_num)]; simp

theorem thr_top : thr (BitVec.ofNat 32 255) = ⊤ := by
  rw [thr_eq 255 (by norm_num)]; simp

theorem thr_mid (e : ℕ) (h1 : 1 ≤ e) (h2 : e ≤ 254) :
    thr (BitVec.ofNat 32 e) = (((2 : ℝ) ^ ((e : ℤ) - 127) : ℝ) : EReal) := by
  rw [thr_eq e (by omega), if_neg (by omega), if_neg (by omega)]

/-! ## The field found -/

theorem toInt_maxsi (x y : BitVec 32) : (IntOp.maxsi x y).toInt = max x.toInt y.toInt := by
  unfold IntOp.maxsi
  simp only [BitVec.slt, decide_eq_true_eq]
  split
  · rw [max_eq_left (by omega)]
  · rw [max_eq_right (by omega)]

theorem toInt_small : ∀ e : Fin 256, (BitVec.ofNat 32 e.val).toInt = (e.val : ℤ) := by
  decide +kernel

theorem raw_eq (r : EReal) (N : ℕ) (hN : N ≤ 255) (h0 : 0 ≤ r) (h1 : thr (BitVec.ofNat 32 N) ≤ r)
    (h2 : ∀ e : ℕ, e ≤ 255 → thr (BitVec.ofNat 32 e) ≤ r → e ≤ N) : raw r = BitVec.ofNat 32 N := by
  apply BitVec.eq_of_toInt_eq
  rw [toInt_small ⟨N, by omega⟩]
  unfold raw
  rw [← Finset.fold_hom (op' := max) toInt_maxsi]
  apply le_antisymm
  · rw [Finset.fold_max_le]
    refine ⟨?_, fun x _ => ?_⟩
    · have : (2147483648#32 : BitVec 32).toInt = -2147483648 := by decide
      rw [this]; simp only; omega
    · dsimp only
      split
      · next h => rw [toInt_small x]; have := h2 x.val (by omega) h; omega
      · simp
  · rw [Finset.le_fold_max]
    refine .inr ⟨⟨N, by omega⟩, Finset.mem_univ _, ?_⟩
    rw [if_pos h1, toInt_small ⟨N, by omega⟩]

theorem fix_mid : ∀ n : Fin 256, 1 ≤ n.val → n.val ≤ 252 → fix (BitVec.ofNat 32 n.val) = BitVec.ofNat 32 n.val
    ∧ IntOp.addi (BitVec.ofNat 32 n.val) 1#32 = BitVec.ofNat 32 (n.val + 1)
    ∧ IntOp.subi 253#32 (BitVec.ofNat 32 n.val) = BitVec.ofNat 32 (253 - n.val) := by
  unfold fix
  decide +kernel

theorem one_of_126 {r : EReal} (h : fix (raw r) = BitVec.ofNat 32 126) : scaleK r = 1 ∧ invK r = 1 := by
  have e1 : IntOp.addi (BitVec.ofNat 32 126) 1#32 = BitVec.ofNat 32 127 := by decide
  have e2 : IntOp.subi 253#32 (BitVec.ofNat 32 126) = BitVec.ofNat 32 127 := by decide
  have e3 : thr (BitVec.ofNat 32 127) = 1 := by rw [thr_mid 127 (by norm_num) (by norm_num)]; norm_num
  unfold scaleK invK
  rw [h, e1, e2, e3]
  exact ⟨rfl, rfl⟩

/-! ## The equality -/

theorem exp2_int (k : ℤ) : Ideal.exp2 (((k : ℝ)) : EReal) = (((2 : ℝ) ^ k : ℝ) : EReal) := by
  rw [Ideal.exp2_coe]
  exact congrArg _ (Real.rpow_intCast 2 k)

theorem sides_zero {r : EReal} (h : expR r = 0) : scaleR r = 1 ∧ invR r = 1 := by
  have := exp2_int 0
  simp only [Int.cast_zero, zpow_zero, EReal.coe_zero, EReal.coe_one] at this
  unfold scaleR invR
  rw [h, sub_zero, this]
  exact ⟨rfl, rfl⟩

theorem floor_bounds (x : ℝ) (hx : 0 < x) :
    (2 : ℝ) ^ ⌊Real.log x / Real.log 2⌋ ≤ x ∧ x < (2 : ℝ) ^ (⌊Real.log x / Real.log 2⌋ + 1) := by
  have hl : 0 < Real.log 2 := Real.log_pos (by norm_num)
  constructor
  · rw [← Real.log_le_log_iff (by positivity) hx, Real.log_zpow]
    exact (le_div_iff₀ hl).mp (Int.floor_le _)
  · rw [← Real.log_lt_log_iff hx (by positivity), Real.log_zpow]
    push_cast
    exact (div_lt_iff₀ hl).mp (Int.lt_floor_add_one _)

theorem expR_mid (x : ℝ) (hx : (2 : ℝ) ^ (-126 : ℤ) ≤ x) :
    expR (x : EReal) = (((⌊Real.log x / Real.log 2⌋ + 1 : ℤ) : ℝ) : EReal) := by
  have h0 : 0 < x := lt_of_lt_of_le (by positivity) hx
  have hl : Real.log 2 ≠ 0 := (Real.log_pos (by norm_num)).ne'
  unfold expR
  rw [tiny_f32, top_f32, two_f32, decide_eq_true (EReal.coe_le_coe_iff.mpr hx), decide_eq_true (EReal.coe_lt_top x),
    Ideal.log_coe, Ideal.log_coe, if_neg (by linarith), if_neg (by norm_num), Ideal.div_coe hl, ← EReal.coe_mul]
  show (((⌊Real.log x * (1 / Real.log 2)⌋ : ℝ) : EReal) + 1) = _
  rw [mul_one_div]
  push_cast
  rfl

/-- The kernel's scale and inverse are the reference's, for a ratio that is infinite or below 2^126. -/
theorem scale_eq (r : EReal) (h0 : 0 ≤ r) (h : r = ⊤ ∨ r < (((2 : ℝ) ^ (126 : ℤ) : ℝ) : EReal)) :
    scaleK r = scaleR r ∧ invK r = invR r := by
  rcases h with rfl | h
  · have hr : raw ⊤ = BitVec.ofNat 32 255 := raw_eq _ 255 le_rfl h0 le_top fun e he _ => he
    have hk := one_of_126 (r := ⊤) (by rw [hr]; decide)
    have hz := sides_zero (r := ⊤) (by unfold expR; rw [top_f32]; simp [Scalar.select, IntOp.andi])
    exact ⟨hk.1.trans hz.1.symm, hk.2.trans hz.2.symm⟩
  by_cases hs : r < (((2 : ℝ) ^ (-126 : ℤ) : ℝ) : EReal)
  · have hr : raw r = BitVec.ofNat 32 0 := by
      refine raw_eq _ 0 (by norm_num) h0 (by rw [thr_zero]; exact h0) fun e he hle => ?_
      by_contra hne
      by_cases h255 : e = 255
      · subst h255; rw [thr_top, top_le_iff] at hle; subst hle; exact absurd hs (by simp)
      rw [thr_mid e (by omega) (by omega)] at hle
      have := EReal.coe_lt_coe_iff.mp (hle.trans_lt hs)
      rw [zpow_lt_zpow_iff_right₀ (by norm_num)] at this
      omega
    have hk := one_of_126 (r := r) (by rw [hr]; decide)
    have hz := sides_zero (r := r) (by
      unfold expR; rw [tiny_f32, decide_eq_false (not_le.mpr hs)]; simp [Scalar.select, IntOp.andi])
    exact ⟨hk.1.trans hz.1.symm, hk.2.trans hz.2.symm⟩
  rw [not_lt] at hs
  induction r using EReal.rec with
  | bot => simp at h0
  | top => simp at h
  | coe x =>
    have hs' := EReal.coe_le_coe_iff.mp hs
    have h' := EReal.coe_lt_coe_iff.mp h
    have hx : 0 < x := lt_of_lt_of_le (by positivity) hs'
    obtain ⟨b1, b2⟩ := floor_bounds x hx
    generalize hk : ⌊Real.log x / Real.log 2⌋ = k at b1 b2
    have k1 : k < 126 := (zpow_lt_zpow_iff_right₀ (by norm_num : (1 : ℝ) < 2)).mp (b1.trans_lt h')
    have k2 : -126 < k + 1 := (zpow_lt_zpow_iff_right₀ (by norm_num : (1 : ℝ) < 2)).mp (hs'.trans_lt b2)
    obtain ⟨N, hN⟩ : ∃ N : ℕ, (N : ℤ) = k + 127 := ⟨(k + 127).toNat, by omega⟩
    have hr : raw (x : EReal) = BitVec.ofNat 32 N := by
      refine raw_eq _ N (by omega) h0 ?_ fun e he hle => ?_
      · rw [thr_mid N (by omega) (by omega), hN]
        exact EReal.coe_le_coe_iff.mpr (by rw [show k + 127 - 127 = k by ring]; exact b1)
      · by_cases h255 : e = 255
        · subst h255; rw [thr_top, top_le_iff] at hle; exact absurd hle (EReal.coe_ne_top x)
        by_cases he0 : e = 0
        · omega
        rw [thr_mid e (by omega) (by omega)] at hle
        have := (zpow_lt_zpow_iff_right₀ (by norm_num : (1 : ℝ) < 2)).mp ((EReal.coe_le_coe_iff.mp hle).trans_lt b2)
        omega
    obtain ⟨f1, f2, f3⟩ := fix_mid ⟨N, by omega⟩ (by dsimp only; omega) (by dsimp only; omega)
    dsimp only at f1 f2 f3
    have e := expR_mid x hs'
    rw [hk] at e
    constructor
    · unfold scaleK scaleR
      rw [hr, f1, f2, thr_mid (N + 1) (by omega) (by omega), e, exp2_int]
      congr 2
      push_cast
      omega
    · unfold invK invR
      rw [hr, f1, f3, thr_mid (253 - N) (by omega) (by omega), e, ← EReal.coe_zero, ← EReal.coe_sub,
        show (0 : ℝ) - ((k + 1 : ℤ) : ℝ) = ((-(k + 1) : ℤ) : ℝ) by push_cast; ring, exp2_int]
      congr 2
      omega

/-! ## The largest absolute value -/

/-- The maximum in two stages (8 rows 16 apart, then the 16) is the maximum over the 128 rows. -/
theorem fold_two_stage (g : Fin 128 → EReal) :
    Finset.fold max ⊥ (fun x : Fin 16 => Finset.fold max ⊥ (fun y : Fin 8 => g ⟨y.val * 16 + x.val, by omega⟩) Finset.univ)
      Finset.univ = Finset.fold max ⊥ g Finset.univ := by
  apply le_antisymm
  · simp only [Finset.fold_max_le]
    exact ⟨bot_le, fun x _ => ⟨bot_le, fun y _ => Finset.le_fold_max _ |>.mpr (.inr ⟨_, Finset.mem_univ _, le_rfl⟩)⟩⟩
  · rw [Finset.fold_max_le]
    refine ⟨bot_le, fun k _ => ?_⟩
    rw [Finset.le_fold_max]
    refine .inr ⟨⟨k.val % 16, by omega⟩, Finset.mem_univ _, ?_⟩
    rw [Finset.le_fold_max]
    refine .inr ⟨⟨k.val / 16, by omega⟩, Finset.mem_univ _, le_of_eq ?_⟩
    congr 1
    apply Fin.ext
    dsimp only
    omega

theorem abs_nonneg' (v : EReal) : 0 ≤ max v (-v) := by
  rcases le_total 0 v with h | h
  · exact le_max_of_le_left h
  · exact le_max_of_le_right (by simpa using h)

theorem amax_nonneg (f : Fin 128 → EReal) : 0 ≤ amax f := by
  unfold amax
  rw [Finset.le_fold_max]
  exact .inr ⟨0, Finset.mem_univ _, abs_nonneg' _⟩

/-- A bfloat16 value in magnitude: finite or infinite. -/
def InRange (v : EReal) : Prop :=
  max v (-v) ≤ Ideal.ofBits .bf16 0x7F7F#16 ∨ max v (-v) = Ideal.ofBits .bf16 0x7F80#16

theorem amax_range (f : Fin 128 → EReal) (h : ∀ k, InRange (f k)) :
    amax f = ⊤ ∨ amax f ≤ Ideal.ofBits .bf16 0x7F7F#16 := by
  by_cases hx : ∃ k, max (f k) (-f k) = ⊤
  · obtain ⟨k, hk⟩ := hx
    refine .inl (top_le_iff.mp ?_)
    unfold amax
    rw [Finset.le_fold_max]
    exact .inr ⟨k, Finset.mem_univ _, hk.ge⟩
  · refine .inr ?_
    unfold amax
    rw [Finset.fold_max_le]
    refine ⟨bot_le, fun k _ => (h k).resolve_right fun e => hx ⟨k, e.trans top_bf16⟩⟩

/-- For a column of values in range and a factor of at most 2^-8, the two sides' scales and inverses agree. -/
theorem column_eq (f : Fin 128 → EReal) (h : ∀ k, InRange (f k)) (c : ℝ) (c0 : 0 < c) (c1 : c ≤ (2 : ℝ) ^ (-8 : ℤ)) :
    scaleK (amax f * (c : EReal)) = scaleR (amax f * (c : EReal))
    ∧ invK (amax f * (c : EReal)) = invR (amax f * (c : EReal)) := by
  have hc : (0 : EReal) ≤ (c : EReal) := EReal.coe_nonneg.mpr c0.le
  refine scale_eq _ (mul_nonneg (amax_nonneg f) hc) ?_
  rcases amax_range f h with e | e
  · exact .inl (by rw [e]; exact EReal.top_mul_coe_of_pos c0)
  · refine .inr ((mul_le_mul_of_nonneg_right e hc).trans_lt ?_)
    rw [max_bf16, ← EReal.coe_mul, EReal.coe_lt_coe_iff]
    calc 255 * (2 : ℝ) ^ (120 : ℤ) * c ≤ 255 * (2 : ℝ) ^ (120 : ℤ) * (2 : ℝ) ^ (-8 : ℤ) := by gcongr
      _ < (2 : ℝ) ^ (126 : ℤ) := by norm_num

theorem column_eq_x (f : Fin 128 → EReal) (h : ∀ k, InRange (f k)) :
    scaleK (amax f * Ideal.ofBits .f32 0x3B124925#32) = scaleR (amax f * Ideal.ofBits .f32 0x3B124925#32)
    ∧ invK (amax f * Ideal.ofBits .f32 0x3B124925#32) = invR (amax f * Ideal.ofBits .f32 0x3B124925#32) := by
  rw [factor_x]
  exact column_eq f h _ (by norm_num) (by norm_num)

theorem column_eq_y (f : Fin 128 → EReal) (h : ∀ k, InRange (f k)) :
    scaleK (amax f * Ideal.ofBits .f32 0x37924925#32) = scaleR (amax f * Ideal.ofBits .f32 0x37924925#32)
    ∧ invK (amax f * Ideal.ofBits .f32 0x37924925#32) = invR (amax f * Ideal.ofBits .f32 0x37924925#32) := by
  rw [factor_y]
  exact column_eq f h _ (by norm_num) (by norm_num)

end Cert.Scale

end
-- ==== Proof.Groups.lean ====
/- One quantized group of the kernel (128 tokens of some columns), read at an index: its codes, its scales and its
   dequantized values as functions of a column's 128 values. -/
module

public import proofs.«01_k».proof.Proof.Scale
public import proofs.«01_k».proof.Proof.Gen.KernelIdeal.Frame

@[expose] public section

noncomputable section

namespace Cert.Groups

open Idealize Idealize.ShloMosaic Cert.Scale Cert.KernelIdeal Cert.KernelIdeal.Gen

/-- A column's scale, for the factor `c`. -/
def qScale (c : EReal) (f : Fin 128 → EReal) : EReal := scaleK (amax f * c)

/-- The code of the column's value `v`, for the factor `c` and the limits `lo`, `hi`. -/
def qCode (lo hi c : EReal) (f : Fin 128 → EReal) (v : EReal) : EReal := min hi (max lo (v * invK (amax f * c)))

abbrev cx : EReal := Ideal.ofBits .f32 0x3B124925#32
abbrev cy : EReal := Ideal.ofBits .f32 0x37924925#32
abbrev lox : EReal := Ideal.ofBits .bf16 0xC3E0#16
abbrev hix : EReal := Ideal.ofBits .bf16 0x43E0#16
abbrev loy : EReal := Ideal.ofBits .bf16 0xC760#16
abbrev hiy : EReal := Ideal.ofBits .bf16 0x4760#16

section generic
variable {F : FTy → Type} [FloatOps F]

/-- A group of x: scales. -/
abbrev xScale (v : Vec F S128x1152 .bf16) : Vec F S1x1152 .f32 := k0_pay5 v
/-- A group of x: codes. -/
abbrev xCodes (v : Vec F S128x1152 .bf16) : Vec F S128x1152 .fp8e4m3 := k0_pay7 (Scalar.ofBits .bf16 0x43E0#16) (k0_pay6 v)
/-- A group of x: the dequantized values, transposed. -/
abbrev xDeqT (v : Vec F S128x1152 .bf16) : Vec F S1152x128 .bf16 := k0_pay8 (k0_pay5 v) (Scalar.ofBits .bf16 0x43E0#16) (k0_pay6 v)
/-- A group of dy: scales. -/
abbrev yScale (v : Vec F S128x256 .bf16) : Vec F S1x256 .f32 := k1_pay4 v
/-- A group of dy: codes. -/
abbrev yCodes (v : Vec F S128x256 .bf16) : Vec F S128x256 .fp8e5m2 := k1_pay6 (k1_pay2 v) (k1_pay5 v)
/-- A group of dy: the dequantized values. -/
abbrev yDeq (v : Vec F S128x256 .bf16) : Vec F S128x256 .bf16 := k1_pay7 (k1_pay2 v) (k1_pay4 v) (k1_pay5 v)

end generic

/-! ## Region 0's pieces are these -/

theorem xField_apply (v : Vec Ideal S128x1152 .bf16) (r : Fin 1) (l : Fin 1152) :
    k0_pay4 (F := Ideal) v (ix2 r l) = fix (raw (amax (fun k => v (ix2 k l)) * cx)) := by
  have h := fold_two_stage fun k => max (v (ix2 k l)) (-(v (ix2 k l)))
  unfold k0_pay4 k0_pay3
  pointwise
  rw [bot_f32, bot_bf16]
  unfold fix raw amax thr
  rw [← h]
  rfl

theorem yField_apply (v : Vec Ideal S128x256 .bf16) (r : Fin 1) (l : Fin 256) :
    k1_pay3 (F := Ideal) v (ix2 r l) = fix (raw (amax (fun k => v (ix2 k l)) * cy)) := by
  have h := fold_two_stage fun k => max (v (ix2 k l)) (-(v (ix2 k l)))
  unfold k1_pay3 k1_pay2
  pointwise
  rw [bot_f32, bot_bf16]
  unfold fix raw amax thr
  rw [← h]
  rfl

theorem xScale_apply (v : Vec Ideal S128x1152 .bf16) (r : Fin 1) (l : Fin 1152) :
    xScale (F := Ideal) v (ix2 r l) = qScale cx fun k => v (ix2 k l) := by
  unfold xScale k0_pay5
  pointwise
  rw [xField_apply]
  rfl

theorem xCodes_apply (v : Vec Ideal S128x1152 .bf16) (r : Fin 128) (l : Fin 1152) :
    xCodes (F := Ideal) v (ix2 r l) = qCode lox hix cx (fun k => v (ix2 k l)) (v (ix2 r l)) := by
  unfold xCodes k0_pay7 k0_pay6 k0_pay3
  pointwise
  rw [xField_apply]
  rfl

theorem xDeqT_apply (v : Vec Ideal S128x1152 .bf16) (l : Fin 1152) (r : Fin 128) :
    xDeqT (F := Ideal) v (ix2 l r)
      = qCode lox hix cx (fun k => v (ix2 k l)) (v (ix2 r l)) * qScale cx fun k => v (ix2 k l) := by
  unfold xDeqT k0_pay8 k0_pay7 k0_pay6 k0_pay5 k0_pay3
  pointwise
  rw [xField_apply]
  rfl

theorem yScale_apply (v : Vec Ideal S128x256 .bf16) (r : Fin 1) (l : Fin 256) :
    yScale (F := Ideal) v (ix2 r l) = qScale cy fun k => v (ix2 k l) := by
  unfold yScale k1_pay4
  pointwise
  rw [yField_apply]
  rfl

theorem yCodes_apply (v : Vec Ideal S128x256 .bf16) (r : Fin 128) (l : Fin 256) :
    yCodes (F := Ideal) v (ix2 r l) = qCode loy hiy cy (fun k => v (ix2 k l)) (v (ix2 r l)) := by
  unfold yCodes k1_pay6 k1_pay5 k1_pay2
  pointwise
  rw [yField_apply]
  rfl

theorem yDeq_apply (v : Vec Ideal S128x256 .bf16) (r : Fin 128) (l : Fin 256) :
    yDeq (F := Ideal) v (ix2 r l)
      = qCode loy hiy cy (fun k => v (ix2 k l)) (v (ix2 r l)) * qScale cy fun k => v (ix2 k l) := by
  unfold yDeq k1_pay7 k1_pay6 k1_pay5 k1_pay4 k1_pay2
  pointwise
  rw [yField_apply]
  rfl

end Cert.Groups

end
-- ==== Proof.Pieces.lean ====
/- The stores of one point of the second call, named uniformly: its 56 groups of dy are the same group function at
   the 56 rectangles, and its 7 column stores of the output are the same product at the 7 column rectangles. -/
module

public import proofs.«01_k».proof.Proof.Groups
public import Idealize.ShloMosaic.Lib.Pipeline.Value

@[expose] public section

noncomputable section

namespace Cert.Pieces

open Idealize Idealize.ShloMosaic Idealize.SL Idealize.SL.Sem Cert.KernelIdeal Cert.KernelIdeal.Gen Cert.Groups

/-- `[f (n-1), …, f 0]`: the last of the first `n` first. -/
def down {α : Type} (f : ℕ → α) : ℕ → List α
  | 0 => []
  | n + 1 => f n :: down f n

theorem mem_down {α : Type} (f : ℕ → α) (x : α) : ∀ N, x ∈ down f N ↔ ∃ n < N, x = f n
  | 0 => by simp [down]
  | N + 1 => by
    rw [down, List.mem_cons, mem_down f x N]
    constructor
    · rintro (rfl | ⟨n, hn, rfl⟩)
      · exact ⟨N, by omega, rfl⟩
      · exact ⟨n, by omega, rfl⟩
    · rintro ⟨n, hn, rfl⟩
      by_cases h : n = N
      · exact .inl (by rw [h])
      · exact .inr ⟨n, by omega, rfl⟩

variable {F : FTy → Type} [FloatOps F]

/-- The `n`th group of a block of dy: row group `n % 8`, column tile `n / 8`. -/
def yRect (n : ℕ) : Rect S1024x1792 :=
  Rect.unit (s := S1024x1792) ![n % 8 * 128, n / 8 % 7 * 256] S128x256.size (by
    intro a; fin_cases a <;> simp [S1024x1792, S128x256] <;> omega)

/-- Its row of the scales. -/
def sRect (n : ℕ) : Rect S8x1792 :=
  Rect.unit (s := S8x1792) ![n % 8, n / 8 % 7 * 256] S1x256.size (by
    intro a; fin_cases a <;> simp [S8x1792, S1x256] <;> omega)

/-- Column tile `j` of the output block. -/
def oRect (j : ℕ) : Rect S1152x1792 :=
  Rect.unit (s := S1152x1792) ![0, j % 7 * 256] S1152x256.size (by
    intro a; fin_cases a <;> simp [S1152x1792, S1152x256] <;> omega)

/-- Column tile `j` of the dequantized block. -/
def dRect (j : ℕ) : Rect S1024x1792 :=
  Rect.unit (s := S1024x1792) ![0, j % 7 * 256] S1024x256.size (by
    intro a; fin_cases a <;> simp [S1024x1792, S1024x256] <;> omega)

/-- A column tile of the output after the step's product is added to it. -/
abbrev oStep (acc : Vec F S1152x256 .f32) (xt : Vec F S1152x1024 .bf16) (d : Vec F S1024x256 .bf16) :
    Vec F S1152x256 .f32 := k1_pay1 (k1_pay377 acc) (k1_pay378 xt) d

variable (c : Dev nD) (i : grid1.Coords) (arg2 : Memref sig .tc .vmem S1152x1792 .f32) (harg2 : arg2.IsWhole) (arg3 : Memref sig .tc .vmem S1152x1024 .bf16) (harg3 : arg3.IsWhole) (arg4 : Memref sig .tc .vmem S1024x1792 .bf16) (harg4 : arg4.IsWhole) (arg5 : Memref sig .tc .vmem S1152x1792 .f32) (harg5 : arg5.IsWhole) (arg6 : Memref sig .tc .vmem S1024x1792 .fp8e5m2) (harg6 : arg6.IsWhole) (arg7 : Memref sig .tc .vmem S8x1792 .f32) (harg7 : arg7.IsWhole) (arg8 : Memref sig .tc .vmem S1024x1792 .bf16) (harg8 : arg8.IsWhole)
    (x0 : Vec F S1152x1792 .f32) (x1 : Vec F S1152x1024 .bf16) (x2 : Vec F S1024x1792 .bf16) (xo3 : Vec F S1152x1792 .f32)

/-- The group as loaded. -/
def yLoad (n : ℕ) : Vec F S128x256 .bf16 := View.readAt (Elt F) arg4.view (yRect n).toLoadRect (harg4.unread x2)

/-- The block of x's dequantized values as loaded. -/
def xLoad : Vec F S1152x1024 .bf16 :=
  View.readAt (Elt F) arg3.view (Rect.unit ![0, 0] S1152x1024.size inb_S1152x1024_S1152x1024_0_0).toLoadRect (harg3.unread x1)

/-- The `n`th store of codes, of scales and of dequantized values. -/
def codePiece (n : ℕ) : View.Piece (Elt F) S1024x1792 .fp8e5m2 := ⟨yRect n, yCodes (yLoad arg4 harg4 x2 n)⟩
def scalePiece (n : ℕ) : View.Piece (Elt F) S8x1792 .f32 := ⟨sRect n, yScale (yLoad arg4 harg4 x2 n)⟩
def deqPiece (n : ℕ) : View.Piece (Elt F) S1024x1792 .bf16 := ⟨yRect n, yDeq (yLoad arg4 harg4 x2 n)⟩

/-- Column tile `j` of the dequantized values as loaded after its eight groups are stored. -/
def deqLoad (j : ℕ) : Vec F S1024x256 .bf16 :=
  arg8.view.readCov (down (deqPiece arg4 harg4 x2) (8 * j + 8)) (dRect j).toLoadRect

/-- The stores into the output at a first point: the whole block, then the column tiles. -/
def outA : ℕ → List (View.Piece (Elt F) S1152x1792 .f32)
  | 0 => [⟨Rect.unit ![0, 0] S1152x1792.size inb_S1152x1792_S1152x1792_0_0,
      View.readAt (Elt F) arg2.view (Rect.unit ![0, 0] S1152x1792.size inb_S1152x1792_S1152x1792_0_0).toLoadRect (harg2.unread x0)⟩]
  | j + 1 => ⟨oRect j, oStep (arg5.view.readCov (outA j) (oRect j).toLoadRect) (xLoad arg3 harg3 x1)
      (deqLoad arg4 harg4 arg8 x2 j)⟩ :: outA j

/-- The store of column tile `j` of the output at a later point. -/
def outPieceB (j : ℕ) : View.Piece (Elt F) S1152x1792 .f32 :=
  ⟨oRect j, oStep (View.readAt (Elt F) arg5.view (oRect j).toLoadRect (harg5.unread xo3)) (xLoad arg3 harg3 x1)
    (deqLoad arg4 harg4 arg8 x2 j)⟩

theorem codesA (hc0 : cond1_0 i) :
    (kernelRun1_A (F := F) c i arg2 harg2 arg3 harg3 arg4 harg4 arg5 harg5 arg6 harg6 arg7 harg7 arg8 harg8 hc0 x0 x1 x2).2.1
      = down (codePiece arg4 harg4 x2) 56 := by
  sl_kernel_rfl

theorem scalesA (hc0 : cond1_0 i) :
    (kernelRun1_A (F := F) c i arg2 harg2 arg3 harg3 arg4 harg4 arg5 harg5 arg6 harg6 arg7 harg7 arg8 harg8 hc0 x0 x1 x2).2.2.1
      = down (scalePiece arg4 harg4 x2) 56 := by
  sl_kernel_rfl

theorem outA_eq (hc0 : cond1_0 i) :
    (kernelRun1_A (F := F) c i arg2 harg2 arg3 harg3 arg4 harg4 arg5 harg5 arg6 harg6 arg7 harg7 arg8 harg8 hc0 x0 x1 x2).1
      = outA arg2 harg2 arg3 harg3 arg4 harg4 arg5 arg8 x0 x1 x2 7 := by
  sl_kernel_rfl

theorem codesB (hc0 : ¬cond1_0 i) :
    (kernelRun1_B (F := F) c i arg2 harg2 arg3 harg3 arg4 harg4 arg5 harg5 arg6 harg6 arg7 harg7 arg8 harg8 hc0 x0 x1 x2 xo3).2.1
      = down (codePiece arg4 harg4 x2) 56 := by
  sl_kernel_rfl

theorem scalesB (hc0 : ¬cond1_0 i) :
    (kernelRun1_B (F := F) c i arg2 harg2 arg3 harg3 arg4 harg4 arg5 harg5 arg6 harg6 arg7 harg7 arg8 harg8 hc0 x0 x1 x2 xo3).2.2.1
      = down (scalePiece arg4 harg4 x2) 56 := by
  sl_kernel_rfl

theorem outB_eq (hc0 : ¬cond1_0 i) :
    (kernelRun1_B (F := F) c i arg2 harg2 arg3 harg3 arg4 harg4 arg5 harg5 arg6 harg6 arg7 harg7 arg8 harg8 hc0 x0 x1 x2 xo3).1
      = down (outPieceB arg3 harg3 arg4 harg4 arg5 harg5 arg8 x1 x2 xo3) 7 := by
  sl_kernel_rfl

end Cert.Pieces

end
-- ==== Proof.Blocks.lean ====
/- What one point of the second call stores, read at an index: codes, scales and the output block, as functions of
   the point's blocks of main_grad, of x's dequantized values and of dy. -/
module

public import proofs.«01_k».proof.Proof.Pieces
public import Idealize.ShloMosaic.Lib.Pointwise

@[expose] public section

noncomputable section

namespace Cert.Blocks

open Idealize Idealize.ShloMosaic Idealize.SL Idealize.SL.Sem Cert.KernelIdeal Cert.KernelIdeal.Gen Cert.Groups
  Cert.Pieces

/-- Group `g` of column `l` of a matrix: rows `128 g` to `128 g + 127`. -/
def colOf {N C : ℕ} (v : (⟨2, ![N, C]⟩ : Shape).Idx → EReal) (g : ℕ) (l : Fin C) (h : g * 128 + 128 ≤ N) :
    Fin 128 → EReal := fun k => v (ix2 ⟨g * 128 + k, by omega⟩ l)

theorem group_le {N r : ℕ} (hr : r < N) (hN : 128 ∣ N) : r / 128 * 128 + 128 ≤ N := by omega

/-- The codes of a matrix quantized by groups of 128 rows. -/
def mCode {N C : ℕ} (lo hi c : EReal) (hN : 128 ∣ N) (v : (⟨2, ![N, C]⟩ : Shape).Idx → EReal)
    (r : Fin N) (l : Fin C) : EReal :=
  qCode lo hi c (colOf v (r / 128) l (group_le r.2 hN)) (v (ix2 r l))

/-- Its scales. -/
def mScale {N C G : ℕ} (c : EReal) (hN : G * 128 ≤ N) (v : (⟨2, ![N, C]⟩ : Shape).Idx → EReal)
    (g : Fin G) (l : Fin C) : EReal :=
  qScale c (colOf v g l (by have := g.2; omega))

/-- Its dequantized values. -/
def mDeq {N C : ℕ} (lo hi c : EReal) (hN : 128 ∣ N) (v : (⟨2, ![N, C]⟩ : Shape).Idx → EReal)
    (r : Fin N) (l : Fin C) : EReal :=
  mCode lo hi c hN v r l * qScale c (colOf v (r / 128) l (group_le r.2 hN))

section
variable (arg2 : Memref sig .tc .vmem S1152x1792 .f32) (harg2 : arg2.IsWhole) (arg3 : Memref sig .tc .vmem S1152x1024 .bf16) (harg3 : arg3.IsWhole) (arg4 : Memref sig .tc .vmem S1024x1792 .bf16) (harg4 : arg4.IsWhole) (arg5 : Memref sig .tc .vmem S1152x1792 .f32) (harg5 : arg5.IsWhole) (arg8 : Memref sig .tc .vmem S1024x1792 .bf16)
    (x0 : Vec Ideal S1152x1792 .f32) (x1 : Vec Ideal S1152x1024 .bf16) (x2 : Vec Ideal S1024x1792 .bf16) (xo3 : Vec Ideal S1152x1792 .f32)

theorem yLoad_eq (n : ℕ) : yLoad arg4 harg4 x2 n = View.ld x2 (yRect n) := by
  unfold yLoad
  rw [View.readAt_eq_ld, Memref.IsWhole.read_unread]

theorem xLoad_eq : xLoad arg3 harg3 x1 = x1 := by
  unfold xLoad
  rw [View.readAt_eq_ld, Memref.IsWhole.read_unread, View.ld_unit_zero]
  funext a; fin_cases a <;> rfl

/-- The column of a loaded group is a group of the block's column. -/
theorem yLoad_col (n : ℕ) (r : Fin 128) (l : Fin 256) (h) :
    (fun k : Fin 128 => View.ld x2 (yRect n) (ix2 k l))
      = colOf x2 (((yRect n).emb (ix2 r l) 0 : Fin 1024) / 128) ((yRect n).emb (ix2 r l) 1) h := by
  funext k
  refine congrArg x2 (Shape.idx_ext₂ ?_ ?_)
  · show n % 8 * 128 + 1 * k.val = (n % 8 * 128 + 1 * r.val) / 128 * 128 + k.val
    omega
  · rfl

theorem codePiece_apply (n : ℕ) (x : (yRect n).shape.Idx) :
    (codePiece arg4 harg4 x2 n).2 x
      = mCode loy hiy cy (by decide) x2 ((yRect n).emb x 0) ((yRect n).emb x 1) := by
  obtain ⟨r, l, rfl⟩ : ∃ (r : Fin 128) (l : Fin 256), x = ix2 r l := ⟨x 0, x 1, eq_ix2 x⟩
  refine (yCodes_apply _ r l).trans ?_
  rw [yLoad_eq, yLoad_col]
  exact congrArg (fun i => qCode loy hiy cy _ (x2 i)) (eq_ix2 _)

theorem deqPiece_apply (n : ℕ) (x : (yRect n).shape.Idx) :
    (deqPiece arg4 harg4 x2 n).2 x
      = mDeq loy hiy cy (by decide) x2 ((yRect n).emb x 0) ((yRect n).emb x 1) := by
  obtain ⟨r, l, rfl⟩ : ∃ (r : Fin 128) (l : Fin 256), x = ix2 r l := ⟨x 0, x 1, eq_ix2 x⟩
  refine (yDeq_apply _ r l).trans ?_
  rw [yLoad_eq, yLoad_col]
  exact congrArg (fun i => qCode loy hiy cy _ (x2 i) * qScale cy _) (eq_ix2 _)

theorem scalePiece_apply (n : ℕ) (x : (sRect n).shape.Idx) :
    (scalePiece arg4 harg4 x2 n).2 x
      = mScale (G := 8) cy (by decide) x2 ((sRect n).emb x 0) ((sRect n).emb x 1) := by
  obtain ⟨r, l, rfl⟩ : ∃ (r : Fin 1) (l : Fin 256), x = ix2 r l := ⟨x 0, x 1, eq_ix2 x⟩
  refine (yScale_apply _ r l).trans ?_
  rw [yLoad_eq]
  refine congrArg (qScale cy) (funext fun k => congrArg x2 (Shape.idx_ext₂ ?_ ?_))
  · show n % 8 * 128 + 1 * k.val = (n % 8 + 1 * r.val) * 128 + k.val
    omega
  · rfl

theorem mem_yRect (n : ℕ) (y : S1024x1792.Idx) (h0 : (y 0).val / 128 = n % 8) (h1 : (y 1).val / 256 = n / 8 % 7) :
    y ∈ (yRect n).set := by
  unfold yRect
  rw [Rect.mem_set_unit]
  intro a
  match a with
  | ⟨0, _⟩ => show n % 8 * 128 ≤ (y 0).val ∧ (y 0).val < n % 8 * 128 + 128; omega
  | ⟨1, _⟩ => show n / 8 % 7 * 256 ≤ (y 1).val ∧ (y 1).val < n / 8 % 7 * 256 + 256; omega

theorem canon_codes (y : S1024x1792.Idx) :
    View.canon (down (codePiece arg4 harg4 x2) 56) y = mCode loy hiy cy (by decide) x2 (y 0) (y 1) := by
  have h0 : (y 0).val < 1024 := (y 0).2
  have h1 : (y 1).val < 1792 := (y 1).2
  refine View.canon_apply_of_pieces (Val := Elt Ideal) (e := .fp8e5m2) (fun y : S1024x1792.Idx => mCode loy hiy cy (by decide) x2 (y 0) (y 1)) _ ?_ y ?_
  · intro p hp x
    obtain ⟨n, -, rfl⟩ := (mem_down _ _ _).1 hp
    exact codePiece_apply arg4 harg4 x2 n x
  · refine ⟨_, (mem_down _ _ _).2 ⟨(y 1).val / 256 * 8 + (y 0).val / 128, by omega, rfl⟩, ?_⟩
    exact mem_yRect _ y (by omega) (by omega)

theorem canon_scales (y : S8x1792.Idx) :
    View.canon (down (scalePiece arg4 harg4 x2) 56) y = mScale (G := 8) cy (by decide) x2 (y 0) (y 1) := by
  have h0 : (y 0).val < 8 := (y 0).2
  have h1 : (y 1).val < 1792 := (y 1).2
  refine View.canon_apply_of_pieces (Val := Elt Ideal) (e := .f32) (fun y : S8x1792.Idx => mScale (G := 8) cy (by decide) x2 (y 0) (y 1)) _ ?_ y ?_
  · intro p hp x
    obtain ⟨n, -, rfl⟩ := (mem_down _ _ _).1 hp
    exact scalePiece_apply arg4 harg4 x2 n x
  · refine ⟨_, (mem_down _ _ _).2 ⟨(y 1).val / 256 * 8 + (y 0).val, by omega, rfl⟩, ?_⟩
    show y ∈ (sRect _).set
    unfold sRect
    rw [Rect.mem_set_unit]
    generalize hn : (y 1).val / 256 * 8 + (y 0).val = n
    intro a
    match a with
    | ⟨0, _⟩ => show n % 8 ≤ (y 0).val ∧ (y 0).val < n % 8 + 1; omega
    | ⟨1, _⟩ => show n / 8 % 7 * 256 ≤ (y 1).val ∧ (y 1).val < n / 8 % 7 * 256 + 256; omega

theorem deqLoad_apply (j : ℕ) (hj : j < 7) (k : Fin 1024) (l : Fin 256) :
    deqLoad arg4 harg4 arg8 x2 j (ix2 k l)
      = mDeq loy hiy cy (by decide) x2 k (⟨j * 256 + l, by omega⟩ : Fin 1792) := by
  unfold deqLoad
  rw [View.readCov_eq_canon']
  have e : (dRect j).toLoadRect.idx (ix2 k l) = (ix2 k ⟨j * 256 + l, by omega⟩ : S1024x1792.Idx) := by
    refine Shape.idx_ext₂ ?_ ?_
    · show 0 + 1 * k.val = k.val; omega
    · show j % 7 * 256 + 1 * l.val = j * 256 + l.val; omega
  show View.canon _ ((dRect j).toLoadRect.idx (ix2 k l)) = _
  rw [e]
  refine View.canon_apply_of_pieces (Val := Elt Ideal) (e := .bf16) (fun y : S1024x1792.Idx => mDeq loy hiy cy (by decide) x2 (y 0) (y 1)) _ ?_ _ ?_
  · intro p hp x
    obtain ⟨n, -, rfl⟩ := (mem_down _ _ _).1 hp
    exact deqPiece_apply arg4 harg4 x2 n x
  · refine ⟨_, (mem_down _ _ _).2 ⟨j * 8 + k.val / 128, by omega, rfl⟩, ?_⟩
    refine mem_yRect _ _ ?_ ?_
    · show k.val / 128 = (j * 8 + k.val / 128) % 8; omega
    · show (j * 256 + l.val) / 256 = (j * 8 + k.val / 128) / 8 % 7; omega

theorem oStep_apply (acc : Vec Ideal S1152x256 .f32) (xt : Vec Ideal S1152x1024 .bf16) (d : Vec Ideal S1024x256 .bf16)
    (r : Fin 1152) (l : Fin 256) :
    oStep acc xt d (ix2 r l) = acc (ix2 r l) + ∑ k : Fin 1024, xt (ix2 r k) * d (ix2 k l) := by
  unfold oStep k1_pay1 k1_pay377 k1_pay378
  pointwise

/-- The product a step adds to the output. -/
def stepSum (r : Fin 1152) (l : Fin 1792) : EReal :=
  ∑ k : Fin 1024, x1 (ix2 r k) * mDeq loy hiy cy (by decide) x2 k l

theorem emb_oRect (j : ℕ) (hj : j < 7) (r : Fin 1152) (l : Fin 256) :
    (oRect j).emb (ix2 r l) = (ix2 r ⟨j * 256 + l, by omega⟩ : S1152x1792.Idx) := by
  refine Shape.idx_ext₂ ?_ ?_
  · show 0 + 1 * r.val = r.val; omega
  · show j % 7 * 256 + 1 * l.val = j * 256 + l.val; omega

theorem mem_oRect (j : ℕ) (hj : j < 7) (y : S1152x1792.Idx) :
    y ∈ (oRect j).set ↔ (y 1).val / 256 = j := by
  unfold oRect
  rw [Rect.mem_set_unit]
  have h0 : (y 0).val < 1152 := (y 0).2
  constructor
  · intro h
    have := h 1
    change j % 7 * 256 ≤ (y 1).val ∧ (y 1).val < j % 7 * 256 + 256 at this
    omega
  · intro h a
    match a with
    | ⟨0, _⟩ => show 0 ≤ (y 0).val ∧ (y 0).val < 0 + 1152; omega
    | ⟨1, _⟩ => show j % 7 * 256 ≤ (y 1).val ∧ (y 1).val < j % 7 * 256 + 256; omega

theorem canon_outB (y : S1152x1792.Idx) :
    View.canon (down (outPieceB arg3 harg3 arg4 harg4 arg5 harg5 arg8 x1 x2 xo3) 7) y
      = xo3 y + stepSum x1 x2 (y 0) (y 1) := by
  have h1 : (y 1).val < 1792 := (y 1).2
  refine View.canon_apply_of_pieces (Val := Elt Ideal) (e := .f32) (fun y : S1152x1792.Idx => xo3 y + stepSum x1 x2 (y 0) (y 1)) _ ?_ y ?_
  · intro p hp x
    obtain ⟨j, hj, rfl⟩ := (mem_down _ _ _).1 hp
    obtain ⟨r, l, rfl⟩ : ∃ (r : Fin 1152) (l : Fin 256), x = ix2 r l := ⟨x 0, x 1, eq_ix2 x⟩
    refine (oStep_apply _ _ _ r l).trans ?_
    rw [View.readAt_eq_ld, Memref.IsWhole.read_unread, xLoad_eq]
    simp only [deqLoad_apply _ _ _ _ j hj]
    show xo3 ((oRect j).emb (ix2 r l)) + _ = xo3 ((oRect j).emb (ix2 r l)) + stepSum x1 x2 ((oRect j).emb (ix2 r l) 0) ((oRect j).emb (ix2 r l) 1)
    rw [emb_oRect j hj]
    rfl
  · exact ⟨_, (mem_down _ _ _).2 ⟨(y 1).val / 256, by omega, rfl⟩, (mem_oRect _ (by omega) y).2 rfl⟩

theorem canon_outA_aux : ∀ (j : ℕ) (_ : j ≤ 7) (y : S1152x1792.Idx),
    View.canon (outA arg2 harg2 arg3 harg3 arg4 harg4 arg5 arg8 x0 x1 x2 j) y
      = if (y 1).val / 256 < j then x0 y + stepSum x1 x2 (y 0) (y 1) else x0 y
  | 0, _, y => by
    rw [if_neg (by omega)]
    unfold outA
    rw [View.canon_unit_zero (by funext a; fin_cases a <;> rfl), View.readAt_eq_ld, Memref.IsWhole.read_unread,
      View.ld_unit_zero (by funext a; fin_cases a <;> rfl)]
  | j + 1, hj, y => by
    have ih := canon_outA_aux j (by omega)
    rw [outA]
    by_cases hm : (y 1).val / 256 = j
    · rw [if_pos (by omega)]
      have h1 : (y 1).val < 1792 := (y 1).2
      obtain ⟨r, l, rfl⟩ : ∃ (r : Fin 1152) (l : Fin 256), y = (oRect j).emb (ix2 r l) := by
        refine ⟨y 0, ⟨(y 1).val % 256, by omega⟩, ?_⟩
        refine Eq.trans ?_ (emb_oRect j (by omega) _ _).symm
        refine Shape.idx_ext₂ rfl ?_
        show (y 1).val = j * 256 + (y 1).val % 256
        omega
      refine (View.canon_cons_emb (oRect j) _ _ (ix2 r l)).trans ?_
      refine (oStep_apply _ _ _ r l).trans ?_
      rw [xLoad_eq, View.readCov_eq_canon']
      simp only [deqLoad_apply _ _ _ _ j (show j < 7 by omega)]
      show View.canon _ ((oRect j).emb (ix2 r l)) + _ = _
      rw [ih, if_neg (by omega), emb_oRect j (by omega)]
      rfl
    · have hn : y ∉ (oRect j).set := fun h => hm ((mem_oRect j (by omega) y).1 h)
      refine (View.canon_cons_of_not_mem ⟨oRect j, _⟩ _ hn).trans ((ih y).trans ?_)
      by_cases h : (y 1).val / 256 < j
      · rw [if_pos h, if_pos (by omega)]
      · rw [if_neg h, if_neg (by omega)]

theorem canon_outA (y : S1152x1792.Idx) :
    View.canon (outA arg2 harg2 arg3 harg3 arg4 harg4 arg5 arg8 x0 x1 x2 7) y
      = x0 y + stepSum x1 x2 (y 0) (y 1) := by
  have h1 : (y 1).val < 1792 := (y 1).2
  exact (canon_outA_aux arg2 harg2 arg3 harg3 arg4 harg4 arg5 arg8 x0 x1 x2 7 (by omega) y).trans (if_pos (by omega))

end

end Cert.Blocks

end
-- ==== Proof.Region0.lean ====
/- The arrays the first call leaves: x's codes, its scales and its dequantized values transposed, each as one function
   of the array the call reads. -/
module

public import proofs.«01_k».proof.Proof.Blocks

@[expose] public section

noncomputable section

namespace Cert.Region0

open Idealize Idealize.ShloMosaic Idealize.SL Idealize.SL.Sem Cert.KernelIdeal Cert.KernelIdeal.Gen Cert.Groups
  Cert.Pieces Cert.Blocks

/-! ## A block of a matrix quantizes as the matrix does -/

section
variable {N C N' C' : ℕ} (w : (⟨2, ![N, C]⟩ : Shape).Idx → EReal) (v : (⟨2, ![N', C']⟩ : Shape).Idx → EReal) (R L : ℕ)
  (h : ∀ (r : Fin N) (l : Fin C) (r' : Fin N') (l' : Fin C'), r'.val = R + r.val → l'.val = L + l.val →
    w (ix2 r l) = v (ix2 r' l'))
include h

theorem colOf_block (g g' : ℕ) (hg : g' * 128 = R + g * 128) (l : Fin C) (l' : Fin C') (hl : l'.val = L + l.val) (p) (p') :
    colOf w g l p = colOf v g' l' p' :=
  funext fun k => h _ _ _ _ (by show g' * 128 + k.val = R + (g * 128 + k.val); omega) hl

theorem mCode_block (lo hi c : EReal) (hN : 128 ∣ N) (hN' : 128 ∣ N') (hR : 128 ∣ R) (r : Fin N) (l : Fin C)
    (r' : Fin N') (l' : Fin C') (hr : r'.val = R + r.val) (hl : l'.val = L + l.val) :
    mCode lo hi c hN w r l = mCode lo hi c hN' v r' l' := by
  unfold mCode
  rw [colOf_block w v R L h (r / 128) (r' / 128) (by omega) l l' hl, h r l r' l' hr hl]

theorem mDeq_block (lo hi c : EReal) (hN : 128 ∣ N) (hN' : 128 ∣ N') (hR : 128 ∣ R) (r : Fin N) (l : Fin C)
    (r' : Fin N') (l' : Fin C') (hr : r'.val = R + r.val) (hl : l'.val = L + l.val) :
    mDeq lo hi c hN w r l = mDeq lo hi c hN' v r' l' := by
  unfold mDeq
  rw [mCode_block w v R L h lo hi c hN hN' hR r l r' l' hr hl,
    colOf_block w v R L h (r / 128) (r' / 128) (by omega) l l' hl]

theorem mScale_block {G G' : ℕ} (c : EReal) (hN : G * 128 ≤ N) (hN' : G' * 128 ≤ N') (g : Fin G) (l : Fin C)
    (g' : Fin G') (l' : Fin C') (hg : g'.val * 128 = R + g.val * 128) (hl : l'.val = L + l.val) :
    mScale c hN w g l = mScale c hN' v g' l' := by
  unfold mScale
  rw [colOf_block w v R L h g g' hg l l' hl]

end

/-! ## The stores of one point -/

section generic
variable {F : FTy → Type} [FloatOps F]

/-- The `g`th group of a block of x. -/
def xRect (g : ℕ) : Rect S1024x1152 :=
  Rect.unit (s := S1024x1152) ![g % 8 * 128, 0] S128x1152.size (by
    intro a; fin_cases a <;> simp [S1024x1152, S128x1152]; omega)

/-- Its row of the scales. -/
def xsRect (g : ℕ) : Rect S8x1152 :=
  Rect.unit (s := S8x1152) ![g % 8, 0] S1x1152.size (by
    intro a; fin_cases a <;> simp [S8x1152, S1x1152]; omega)

/-- Its columns of the transposed block. -/
def xtRect (g : ℕ) : Rect S1152x1024 :=
  Rect.unit (s := S1152x1024) ![0, g % 8 * 128] S1152x128.size (by
    intro a; fin_cases a <;> simp [S1152x1024, S1152x128]; omega)

variable (x0 : Vec F S1024x1152 .bf16)

def xCodePiece (g : ℕ) : View.Piece (Elt F) S1024x1152 .fp8e4m3 := ⟨xRect g, xCodes (View.ld x0 (xRect g))⟩
def xScalePiece (g : ℕ) : View.Piece (Elt F) S8x1152 .f32 := ⟨xsRect g, xScale (View.ld x0 (xRect g))⟩
def xDeqPiece (g : ℕ) : View.Piece (Elt F) S1152x1024 .bf16 := ⟨xtRect g, xDeqT (View.ld x0 (xRect g))⟩

theorem out0_1_eq : out0_1 x0 = View.canon (down (xCodePiece x0) 8) := by sl_kernel_rfl
theorem out0_2_eq : out0_2 x0 = View.canon (down (xScalePiece x0) 8) := by sl_kernel_rfl
theorem out0_3_eq : out0_3 x0 = View.canon (down (xDeqPiece x0) 8) := by sl_kernel_rfl

end generic

section
variable (x0 : Vec Ideal S1024x1152 .bf16)

theorem ld_xRect (g : ℕ) (r : Fin 128) (l : Fin 1152) :
    View.ld x0 (xRect g) (ix2 r l) = x0 (ix2 ⟨g % 8 * 128 + r, by omega⟩ l) := by
  refine congrArg x0 (Shape.idx_ext₂ ?_ ?_)
  · show g % 8 * 128 + 1 * r.val = g % 8 * 128 + r.val; omega
  · show 0 + 1 * l.val = l.val; omega

/-- The column of a loaded group is a group of the block's column. -/
theorem ld_col (g : ℕ) (r : Fin 128) (l : Fin 1152) (h) :
    (fun k : Fin 128 => View.ld x0 (xRect g) (ix2 k l))
      = colOf x0 (((xRect g).emb (ix2 r l) 0 : Fin 1024) / 128) ((xRect g).emb (ix2 r l) 1) h := by
  funext k
  refine congrArg x0 (Shape.idx_ext₂ ?_ ?_)
  · show g % 8 * 128 + 1 * k.val = (g % 8 * 128 + 1 * r.val) / 128 * 128 + k.val
    omega
  · rfl

theorem xCodePiece_apply (g : ℕ) (x : (xRect g).shape.Idx) :
    (xCodePiece x0 g).2 x = mCode lox hix cx (by decide) x0 ((xRect g).emb x 0) ((xRect g).emb x 1) := by
  obtain ⟨r, l, rfl⟩ : ∃ (r : Fin 128) (l : Fin 1152), x = ix2 r l := ⟨x 0, x 1, eq_ix2 x⟩
  refine (xCodes_apply _ r l).trans ?_
  rw [ld_col]
  exact congrArg (fun i => qCode lox hix cx _ (x0 i)) (eq_ix2 _)

theorem xDeqPiece_apply (g : ℕ) (x : (xtRect g).shape.Idx) :
    (xDeqPiece x0 g).2 x = mDeq lox hix cx (by decide) x0 ((xtRect g).emb x 1) ((xtRect g).emb x 0) := by
  obtain ⟨l, r, rfl⟩ : ∃ (l : Fin 1152) (r : Fin 128), x = ix2 l r := ⟨x 0, x 1, eq_ix2 x⟩
  refine (xDeqT_apply _ l r).trans ?_
  rw [ld_col]
  exact congrArg (fun i => qCode lox hix cx _ (x0 i) * qScale cx _) (eq_ix2 _)

theorem out0_1_apply (y : S1024x1152.Idx) : out0_1 x0 y = mCode lox hix cx (by decide) x0 (y 0) (y 1) := by
  have h0 : (y 0).val < 1024 := (y 0).2
  have h1 : (y 1).val < 1152 := (y 1).2
  rw [out0_1_eq]
  refine View.canon_apply_of_pieces (Val := Elt Ideal) (e := .fp8e4m3) (fun y : S1024x1152.Idx => mCode lox hix cx (by decide) x0 (y 0) (y 1)) _ ?_ y ?_
  · intro p hp x
    obtain ⟨g, -, rfl⟩ := (mem_down _ _ _).1 hp
    exact xCodePiece_apply x0 g x
  · refine ⟨_, (mem_down _ _ _).2 ⟨(y 0).val / 128, by omega, rfl⟩, ?_⟩
    show y ∈ (xRect _).set
    unfold xRect
    rw [Rect.mem_set_unit]
    generalize hn : (y 0).val / 128 = n
    intro a
    match a with
    | ⟨0, _⟩ => show n % 8 * 128 ≤ (y 0).val ∧ (y 0).val < n % 8 * 128 + 128; omega
    | ⟨1, _⟩ => show 0 ≤ (y 1).val ∧ (y 1).val < 0 + 1152; omega

theorem out0_2_apply (y : S8x1152.Idx) : out0_2 x0 y = mScale (G := 8) cx (by decide) x0 (y 0) (y 1) := by
  have h0 : (y 0).val < 8 := (y 0).2
  have h1 : (y 1).val < 1152 := (y 1).2
  rw [out0_2_eq]
  refine View.canon_apply_of_pieces (Val := Elt Ideal) (e := .f32) (fun y : S8x1152.Idx => mScale (G := 8) cx (by decide) x0 (y 0) (y 1)) _ ?_ y ?_
  · intro p hp x
    obtain ⟨g, -, rfl⟩ := (mem_down _ _ _).1 hp
    obtain ⟨r, l, rfl⟩ : ∃ (r : Fin 1) (l : Fin 1152), x = ix2 r l := ⟨x 0, x 1, eq_ix2 x⟩
    refine (xScale_apply _ r l).trans (congrArg (qScale cx) (funext fun k => ?_))
    refine (ld_xRect x0 g k l).trans (congrArg x0 (Shape.idx_ext₂ ?_ ?_))
    · show g % 8 * 128 + k.val = (g % 8 + 1 * r.val) * 128 + k.val; omega
    · show l.val = 0 + 1 * l.val; omega
  · refine ⟨_, (mem_down _ _ _).2 ⟨(y 0).val, by omega, rfl⟩, ?_⟩
    show y ∈ (xsRect _).set
    unfold xsRect
    rw [Rect.mem_set_unit]
    generalize hn : (y 0).val = n at *
    intro a
    match a with
    | ⟨0, _⟩ => show n % 8 ≤ (y 0).val ∧ (y 0).val < n % 8 + 1; omega
    | ⟨1, _⟩ => show 0 ≤ (y 1).val ∧ (y 1).val < 0 + 1152; omega

theorem out0_3_apply (y : S1152x1024.Idx) : out0_3 x0 y = mDeq lox hix cx (by decide) x0 (y 1) (y 0) := by
  have h0 : (y 0).val < 1152 := (y 0).2
  have h1 : (y 1).val < 1024 := (y 1).2
  rw [out0_3_eq]
  refine View.canon_apply_of_pieces (Val := Elt Ideal) (e := .bf16) (fun y : S1152x1024.Idx => mDeq lox hix cx (by decide) x0 (y 1) (y 0)) _ ?_ y ?_
  · intro p hp x
    obtain ⟨g, -, rfl⟩ := (mem_down _ _ _).1 hp
    exact xDeqPiece_apply x0 g x
  · refine ⟨_, (mem_down _ _ _).2 ⟨(y 1).val / 128, by omega, rfl⟩, ?_⟩
    show y ∈ (xtRect _).set
    unfold xtRect
    rw [Rect.mem_set_unit]
    generalize hn : (y 1).val / 128 = n
    intro a
    match a with
    | ⟨0, _⟩ => show 0 ≤ (y 0).val ∧ (y 0).val < 0 + 1152; omega
    | ⟨1, _⟩ => show n % 8 * 128 ≤ (y 1).val ∧ (y 1).val < n % 8 * 128 + 128; omega

end

/-! ## The arrays -/

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

variable (V : Dev nD → (r : Ref sig .tc) → r.ty.Contents (Elt Ideal)) (c : Dev nD)

/-- The point's block of x. -/
theorem iblk0_apply (t : Fin cfg0.N) (r : Fin 1024) (l : Fin 1152) (r' : Fin 24576) (l' : Fin 1152)
    (hr : r'.val = t.val * 1024 + r.val) (hl : l'.val = 0 + l.val) :
    iblk0 V c 0 t (ix2 r l : S1024x1152.Idx) = V c main_v0 (ix2 r' l' : S24576x1152.Idx) := by
  obtain ⟨h0, h1, -⟩ := idx_facts t
  refine congrArg (V c main_v0) (Shape.idx_ext₂ ?_ ?_)
  · refine (win0_0.rect_emb_val t (ix2 r l : S1024x1152.Idx) (0 : Fin 2)).trans ?_
    rw [h0]; exact hr.symm
  · refine (win0_0.rect_emb_val t (ix2 r l : S1024x1152.Idx) (1 : Fin 2)).trans ?_
    rw [h1]
    show 0 * 1152 + l.val = l'.val; omega

theorem arr_codes : (dat0 V c).arrAt 1 cfg0.N
    = (fun i : S24576x1152.Idx => mCode lox hix cx (by decide) (V c main_v0) (i 0) (i 1)) := by
  refine Pipeline.Dat.arrAt_eq_of_cover (dat0 V c) 1 (fun i : S24576x1152.Idx => mCode lox hix cx (by decide) (V c main_v0) (i 0) (i 1)) ?_ ?_
  · intro t _
    obtain ⟨-, -, h0, h1, -⟩ := idx_facts t
    show (cfg0.win 1).cut (grid0.coords t) ((dat0 V c).after 1 t) = _
    rw [after0_1]
    funext y
    refine (out0_1_apply _ y).trans ?_
    refine mCode_block (iblk0 V c 0 t) (V c main_v0) (t.val * 1024) 0 (iblk0_apply V c t) lox hix cx (by decide) (by decide) (by omega) _ _ _ _ ?_ ?_
    · refine (win0_1.rect_emb_val t y (0 : Fin 2)).trans ?_
      rw [h0]; rfl
    · refine (win0_1.rect_emb_val t y (1 : Fin 2)).trans ?_
      rw [h1]; show 0 * 1152 + (y 1).val = 0 + (y 1).val; omega
  · intro i
    have g0 : (i 0).val < 24576 := (i 0).2
    have g1 : (i 1).val < 1152 := (i 1).2
    refine ⟨⟨(i 0).val / 1024, by show _ < 24; omega⟩, flush0_1 _, ?_⟩
    generalize ht : (⟨(i 0).val / 1024, _⟩ : Fin cfg0.N) = t
    have ht' : t.val = (i 0).val / 1024 := by rw [← ht]
    obtain ⟨-, -, h0, h1, -⟩ := idx_facts t
    show i ∈ ((View.whole main_v2_0).slice (win0_1.rect t)).set
    rw [View.set_slice_whole, Rect.mem_set_unit]
    intro a
    match a with
    | ⟨0, _⟩ =>
      show win0_1.index t (0 : Fin 2) * 1024 ≤ (i 0).val ∧ (i 0).val < win0_1.index t (0 : Fin 2) * 1024 + 1024
      rw [h0]; omega
    | ⟨1, _⟩ =>
      show win0_1.index t (1 : Fin 2) * 1152 ≤ (i 1).val ∧ (i 1).val < win0_1.index t (1 : Fin 2) * 1152 + 1152
      rw [h1]; omega

theorem arr_scale : (dat0 V c).arrAt 2 cfg0.N
    = (fun i : S192x1152.Idx => mScale (G := 192) cx (by decide) (V c main_v0) (i 0) (i 1)) := by
  refine Pipeline.Dat.arrAt_eq_of_cover (dat0 V c) 2 (fun i : S192x1152.Idx => mScale (G := 192) cx (by decide) (V c main_v0) (i 0) (i 1)) ?_ ?_
  · intro t _
    obtain ⟨-, -, -, -, h0, h1, -⟩ := idx_facts t
    show (cfg0.win 2).cut (grid0.coords t) ((dat0 V c).after 2 t) = _
    rw [after0_2]
    funext y
    refine (out0_2_apply _ y).trans ?_
    refine mScale_block (iblk0 V c 0 t) (V c main_v0) (t.val * 1024) 0 (iblk0_apply V c t) cx (by decide) (by decide) _ _ _ _ ?_ ?_
    · refine (congrArg (· * 128) (win0_2.rect_emb_val t y (0 : Fin 2))).trans ?_
      rw [h0]; show (t.val * 8 + (y 0).val) * 128 = t.val * 1024 + (y 0).val * 128; omega
    · refine (win0_2.rect_emb_val t y (1 : Fin 2)).trans ?_
      rw [h1]; show 0 * 1152 + (y 1).val = 0 + (y 1).val; omega
  · intro i
    have g0 : (i 0).val < 192 := (i 0).2
    have g1 : (i 1).val < 1152 := (i 1).2
    refine ⟨⟨(i 0).val / 8, by show _ < 24; omega⟩, flush0_2 _, ?_⟩
    generalize ht : (⟨(i 0).val / 8, _⟩ : Fin cfg0.N) = t
    have ht' : t.val = (i 0).val / 8 := by rw [← ht]
    obtain ⟨-, -, -, -, h0, h1, -⟩ := idx_facts t
    show i ∈ ((View.whole main_v2_1).slice (win0_2.rect t)).set
    rw [View.set_slice_whole, Rect.mem_set_unit]
    intro a
    match a with
    | ⟨0, _⟩ =>
      show win0_2.index t (0 : Fin 2) * 8 ≤ (i 0).val ∧ (i 0).val < win0_2.index t (0 : Fin 2) * 8 + 8
      rw [h0]; omega
    | ⟨1, _⟩ =>
      show win0_2.index t (1 : Fin 2) * 1152 ≤ (i 1).val ∧ (i 1).val < win0_2.index t (1 : Fin 2) * 1152 + 1152
      rw [h1]; omega

theorem arr_deq : (dat0 V c).arrAt 3 cfg0.N
    = (fun i : S1152x24576.Idx => mDeq lox hix cx (by decide) (V c main_v0) (i 1) (i 0)) := by
  refine Pipeline.Dat.arrAt_eq_of_cover (dat0 V c) 3 (fun i : S1152x24576.Idx => mDeq lox hix cx (by decide) (V c main_v0) (i 1) (i 0)) ?_ ?_
  · intro t _
    obtain ⟨-, -, -, -, -, -, h0, h1⟩ := idx_facts t
    show (cfg0.win 3).cut (grid0.coords t) ((dat0 V c).after 3 t) = _
    rw [after0_3]
    funext y
    refine (out0_3_apply _ y).trans ?_
    refine mDeq_block (iblk0 V c 0 t) (V c main_v0) (t.val * 1024) 0 (iblk0_apply V c t) lox hix cx (by decide) (by decide) (by omega) _ _ _ _ ?_ ?_
    · refine (win0_3.rect_emb_val t y (1 : Fin 2)).trans ?_
      rw [h1]; rfl
    · refine (win0_3.rect_emb_val t y (0 : Fin 2)).trans ?_
      rw [h0]; show 0 * 1152 + (y 0).val = 0 + (y 0).val; omega
  · intro i
    have g0 : (i 0).val < 1152 := (i 0).2
    have g1 : (i 1).val < 24576 := (i 1).2
    refine ⟨⟨(i 1).val / 1024, by show _ < 24; omega⟩, flush0_3 _, ?_⟩
    generalize ht : (⟨(i 1).val / 1024, _⟩ : Fin cfg0.N) = t
    have ht' : t.val = (i 1).val / 1024 := by rw [← ht]
    obtain ⟨-, -, -, -, -, -, h0, h1⟩ := idx_facts t
    show i ∈ ((View.whole main_v2_2).slice (win0_3.rect t)).set
    rw [View.set_slice_whole, Rect.mem_set_unit]
    intro a
    match a with
    | ⟨0, _⟩ =>
      show win0_3.index t (0 : Fin 2) * 1152 ≤ (i 0).val ∧ (i 0).val < win0_3.index t (0 : Fin 2) * 1152 + 1152
      rw [h0]; omega
    | ⟨1, _⟩ =>
      show win0_3.index t (1 : Fin 2) * 1024 ≤ (i 1).val ∧ (i 1).val < win0_3.index t (1 : Fin 2) * 1024 + 1024
      rw [h1]; omega

end Cert.Region0

end
-- ==== Proof.Region1.lean ====
/- The arrays the second call leaves: dy's codes and scales as functions of the array the call reads, and the output as
   main_grad plus the product over all the tokens. -/
module

public import proofs.«01_k».proof.Proof.Region0

@[expose] public section

noncomputable section

namespace Cert.Region1

open Idealize Idealize.ShloMosaic Idealize.SL Idealize.SL.Sem Cert.KernelIdeal Cert.KernelIdeal.Gen Cert.Groups
  Cert.Pieces Cert.Blocks Cert.Region0

theorem idx_facts : ∀ t : Fin cfg1.N, (win1_0.index t (0 : Fin 2) = 0 ∧ win1_0.index t (1 : Fin 2) = t.val / 24)
    ∧ (win1_1.index t (0 : Fin 2) = 0 ∧ win1_1.index t (1 : Fin 2) = t.val % 24)
    ∧ (win1_2.index t (0 : Fin 2) = t.val % 24 ∧ win1_2.index t (1 : Fin 2) = t.val / 24)
    ∧ (win1_3.index t (0 : Fin 2) = 0 ∧ win1_3.index t (1 : Fin 2) = t.val / 24)
    ∧ (win1_4.index t (0 : Fin 2) = t.val % 24 ∧ win1_4.index t (1 : Fin 2) = t.val / 24)
    ∧ (win1_5.index t (0 : Fin 2) = t.val % 24 ∧ win1_5.index t (1 : Fin 2) = t.val / 24) :=
  (by decide +kernel : ∀ t : Fin grid1.N, _)

theorem lt_N (t : Fin cfg1.N) : t.val < 168 := t.2

variable (V : Dev nD → (r : Ref sig .tc) → r.ty.Contents (Elt Ideal)) (c : Dev nD)

/-- The point's blocks of main_grad, of x's dequantized values and of dy. -/
abbrev blkM (t : Fin cfg1.N) : Vec Ideal S1152x1792 .f32 := iblk1 V c 0 t
abbrev blkX (t : Fin cfg1.N) : Vec Ideal S1152x1024 .bf16 := iblk1 V c 1 t
abbrev blkY (t : Fin cfg1.N) : Vec Ideal S1024x1792 .bf16 := iblk1 V c 2 t

/-- main_grad and x's dequantized values, transposed, as the call finds them. -/
def inM (r : Fin 1152) (l : Fin 12544) : EReal := V c main_arg2 (ix2 r l : S1152x12544.Idx)
def inX (r : Fin 1152) (n : Fin 24576) : EReal := V c main_v2_2 (ix2 r n : S1152x24576.Idx)

theorem blkM_apply (t : Fin cfg1.N) (r : Fin 1152) (l : Fin 1792) (r' : Fin 1152) (l' : Fin 12544)
    (hr : r'.val = r.val) (hl : l'.val = t.val / 24 * 1792 + l.val) :
    blkM V c t (ix2 r l) = inM V c r' l' := by
  obtain ⟨⟨h0, h1⟩, -⟩ := idx_facts t
  refine congrArg (V c main_arg2) (Shape.idx_ext₂ ?_ ?_)
  · refine (win1_0.rect_emb_val t (ix2 r l : S1152x1792.Idx) (0 : Fin 2)).trans ?_
    rw [h0]; show 0 * 1152 + r.val = r'.val; omega
  · refine (win1_0.rect_emb_val t (ix2 r l : S1152x1792.Idx) (1 : Fin 2)).trans ?_
    rw [h1]; exact hl.symm

theorem blkX_apply (t : Fin cfg1.N) (r : Fin 1152) (l : Fin 1024) (r' : Fin 1152) (l' : Fin 24576)
    (hr : r'.val = r.val) (hl : l'.val = t.val % 24 * 1024 + l.val) :
    blkX V c t (ix2 r l) = inX V c r' l' := by
  obtain ⟨-, ⟨h0, h1⟩, -⟩ := idx_facts t
  refine congrArg (V c main_v2_2) (Shape.idx_ext₂ ?_ ?_)
  · refine (win1_1.rect_emb_val t (ix2 r l : S1152x1024.Idx) (0 : Fin 2)).trans ?_
    rw [h0]; show 0 * 1152 + r.val = r'.val; omega
  · refine (win1_1.rect_emb_val t (ix2 r l : S1152x1024.Idx) (1 : Fin 2)).trans ?_
    rw [h1]; exact hl.symm

theorem blkY_apply (t : Fin cfg1.N) (r : Fin 1024) (l : Fin 1792) (r' : Fin 24576) (l' : Fin 12544)
    (hr : r'.val = t.val % 24 * 1024 + r.val) (hl : l'.val = t.val / 24 * 1792 + l.val) :
    blkY V c t (ix2 r l) = V c main_v1 (ix2 r' l' : S24576x12544.Idx) := by
  obtain ⟨-, -, ⟨h0, h1⟩, -⟩ := idx_facts t
  refine congrArg (V c main_v1) (Shape.idx_ext₂ ?_ ?_)
  · refine (win1_2.rect_emb_val t (ix2 r l : S1024x1792.Idx) (0 : Fin 2)).trans ?_
    rw [h0]; exact hr.symm
  · refine (win1_2.rect_emb_val t (ix2 r l : S1024x1792.Idx) (1 : Fin 2)).trans ?_
    rw [h1]; exact hl.symm

/-! ## The outputs after a point -/

theorem point_codes (t : Fin cfg1.N) (y : S1024x1792.Idx) :
    (outsAt1 V c t.val t.isLt).2.1 y = mCode loy hiy cy (by decide) (blkY V c t) (y 0) (y 1) := by
  by_cases h0 : t.val % 24 = 0
  · rw [outsAt1_A V c t h0]
    dsimp only
    unfold out1_A_4
    rw [View.read_writes_eq_canon _ _ _ (cover1_A_4 c _ _ _ _ _ _ _ _ _ _ _ _ _ _ _ _ _ _ _), codesA, canon_codes]
  · rw [outsAt1_B V c t h0]
    dsimp only
    unfold out1_B_4
    rw [View.read_writes_eq_canon _ _ _ (cover1_B_4 c _ _ _ _ _ _ _ _ _ _ _ _ _ _ _ _ _ _ _ _), codesB, canon_codes]

theorem point_scales (t : Fin cfg1.N) (y : S8x1792.Idx) :
    (outsAt1 V c t.val t.isLt).2.2 y = mScale (G := 8) cy (by decide) (blkY V c t) (y 0) (y 1) := by
  by_cases h0 : t.val % 24 = 0
  · rw [outsAt1_A V c t h0]
    dsimp only
    unfold out1_A_5
    rw [View.read_writes_eq_canon _ _ _ (cover1_A_5 c _ _ _ _ _ _ _ _ _ _ _ _ _ _ _ _ _ _ _), scalesA, canon_scales]
  · rw [outsAt1_B V c t h0]
    dsimp only
    unfold out1_B_5
    rw [View.read_writes_eq_canon _ _ _ (cover1_B_5 c _ _ _ _ _ _ _ _ _ _ _ _ _ _ _ _ _ _ _ _), scalesB, canon_scales]

theorem point_out_first (t : Fin cfg1.N) (h0 : t.val % 24 = 0) (y : S1152x1792.Idx) :
    (outsAt1 V c t.val t.isLt).1 y = blkM V c t y + stepSum (blkX V c t) (blkY V c t) (y 0) (y 1) := by
  rw [outsAt1_A V c t h0]
  dsimp only
  unfold out1_A_3
  rw [View.read_writes_eq_canon _ _ _ (cover1_A_3 c _ _ _ _ _ _ _ _ _ _ _ _ _ _ _ _ _ _ _), outA_eq, canon_outA]

theorem point_out_next (t : Fin cfg1.N) (h0 : ¬t.val % 24 = 0) (y : S1152x1792.Idx) :
    (outsAt1 V c t.val t.isLt).1 y
      = (outsAt1 V c (t.val - 1) (Nat.lt_of_le_of_lt (Nat.sub_le _ _) t.isLt)).1 y
        + stepSum (blkX V c t) (blkY V c t) (y 0) (y 1) := by
  rw [outsAt1_B V c t h0]
  dsimp only
  unfold out1_B_3
  rw [View.read_writes_eq_canon _ _ _ (cover1_B_3 c _ _ _ _ _ _ _ _ _ _ _ _ _ _ _ _ _ _ _ _), outB_eq, canon_outB]

/-! ## The codes and the scales -/

theorem arr_codes : (dat1 V c).arrAt 4 cfg1.N
    = (fun i : S24576x12544.Idx => mCode loy hiy cy (by decide) (V c main_v1) (i 0) (i 1)) := by
  refine Pipeline.Dat.arrAt_eq_of_cover (dat1 V c) 4 (fun i : S24576x12544.Idx => mCode loy hiy cy (by decide) (V c main_v1) (i 0) (i 1)) ?_ ?_
  · intro t _
    obtain ⟨-, -, -, -, ⟨h0, h1⟩, -⟩ := idx_facts t
    show (cfg1.win 4).cut (grid1.coords t) ((dat1 V c).after 4 t) = _
    rw [after1_4]
    funext y
    refine (point_codes V c t y).trans ?_
    refine mCode_block (blkY V c t) (V c main_v1) (t.val % 24 * 1024) (t.val / 24 * 1792) (blkY_apply V c t) loy hiy cy (by decide) (by decide) (by omega) _ _ _ _ ?_ ?_
    · refine (win1_4.rect_emb_val t y (0 : Fin 2)).trans ?_
      rw [h0]; rfl
    · refine (win1_4.rect_emb_val t y (1 : Fin 2)).trans ?_
      rw [h1]; rfl
  · intro i
    have g0 : (i 0).val < 24576 := (i 0).2
    have g1 : (i 1).val < 12544 := (i 1).2
    refine ⟨⟨(i 1).val / 1792 * 24 + (i 0).val / 1024, by show _ < 168; omega⟩, flush1_4 _, ?_⟩
    generalize ht : (⟨(i 1).val / 1792 * 24 + (i 0).val / 1024, _⟩ : Fin cfg1.N) = t
    have ht' : t.val = (i 1).val / 1792 * 24 + (i 0).val / 1024 := by rw [← ht]
    obtain ⟨-, -, -, -, ⟨h0, h1⟩, -⟩ := idx_facts t
    show i ∈ ((View.whole main_v3_1).slice (win1_4.rect t)).set
    rw [View.set_slice_whole, Rect.mem_set_unit]
    intro a
    match a with
    | ⟨0, _⟩ =>
      show win1_4.index t (0 : Fin 2) * 1024 ≤ (i 0).val ∧ (i 0).val < win1_4.index t (0 : Fin 2) * 1024 + 1024
      rw [h0]; omega
    | ⟨1, _⟩ =>
      show win1_4.index t (1 : Fin 2) * 1792 ≤ (i 1).val ∧ (i 1).val < win1_4.index t (1 : Fin 2) * 1792 + 1792
      rw [h1]; omega

theorem arr_scale : (dat1 V c).arrAt 5 cfg1.N
    = (fun i : S192x12544.Idx => mScale (G := 192) cy (by decide) (V c main_v1) (i 0) (i 1)) := by
  refine Pipeline.Dat.arrAt_eq_of_cover (dat1 V c) 5 (fun i : S192x12544.Idx => mScale (G := 192) cy (by decide) (V c main_v1) (i 0) (i 1)) ?_ ?_
  · intro t _
    obtain ⟨-, -, -, -, -, h0, h1⟩ := idx_facts t
    show (cfg1.win 5).cut (grid1.coords t) ((dat1 V c).after 5 t) = _
    rw [after1_5]
    funext y
    refine (point_scales V c t y).trans ?_
    refine mScale_block (blkY V c t) (V c main_v1) (t.val % 24 * 1024) (t.val / 24 * 1792) (blkY_apply V c t) cy (by decide) (by decide) _ _ _ _ ?_ ?_
    · refine (congrArg (· * 128) (win1_5.rect_emb_val t y (0 : Fin 2))).trans ?_
      rw [h0]; show (t.val % 24 * 8 + (y 0).val) * 128 = t.val % 24 * 1024 + (y 0).val * 128; omega
    · refine (win1_5.rect_emb_val t y (1 : Fin 2)).trans ?_
      rw [h1]; rfl
  · intro i
    have g0 : (i 0).val < 192 := (i 0).2
    have g1 : (i 1).val < 12544 := (i 1).2
    refine ⟨⟨(i 1).val / 1792 * 24 + (i 0).val / 8, by show _ < 168; omega⟩, flush1_5 _, ?_⟩
    generalize ht : (⟨(i 1).val / 1792 * 24 + (i 0).val / 8, _⟩ : Fin cfg1.N) = t
    have ht' : t.val = (i 1).val / 1792 * 24 + (i 0).val / 8 := by rw [← ht]
    obtain ⟨-, -, -, -, -, h0, h1⟩ := idx_facts t
    show i ∈ ((View.whole main_v3_2).slice (win1_5.rect t)).set
    rw [View.set_slice_whole, Rect.mem_set_unit]
    intro a
    match a with
    | ⟨0, _⟩ =>
      show win1_5.index t (0 : Fin 2) * 8 ≤ (i 0).val ∧ (i 0).val < win1_5.index t (0 : Fin 2) * 8 + 8
      rw [h0]; omega
    | ⟨1, _⟩ =>
      show win1_5.index t (1 : Fin 2) * 1792 ≤ (i 1).val ∧ (i 1).val < win1_5.index t (1 : Fin 2) * 1792 + 1792
      rw [h1]; omega

/-! ## The output -/

/-- The `n`th term of the product at row `r`, column `l`; zero past the last token. -/
def term (r : Fin 1152) (l : Fin 12544) (n : ℕ) : EReal :=
  if h : n < 24576 then
    inX V c r ⟨n, h⟩ * mDeq loy hiy cy (by decide) (V c main_v1) ⟨n, h⟩ l
  else 0

theorem stepSum_eq (t : Fin cfg1.N) (r : Fin 1152) (l : Fin 1792) (l' : Fin 12544)
    (hl : l'.val = t.val / 24 * 1792 + l.val) :
    stepSum (blkX V c t) (blkY V c t) r l = ∑ n ∈ Finset.range 1024, term V c r l' (t.val % 24 * 1024 + n) := by
  rw [Finset.sum_range]
  unfold stepSum
  refine Finset.sum_congr rfl fun k _ => ?_
  have hk : t.val % 24 * 1024 + k.val < 24576 := by omega
  unfold term
  rw [dif_pos hk, blkX_apply V c t r k r ⟨_, hk⟩ rfl rfl,
    mDeq_block (blkY V c t) (V c main_v1) (t.val % 24 * 1024) (t.val / 24 * 1792) (blkY_apply V c t) loy hiy cy
      (by decide) (by decide) (by omega) k l ⟨_, hk⟩ l' rfl hl]

/-- The output block after step `k` of column tile `j`: main_grad plus the first `1024 (k + 1)` terms. -/
theorem point_out (r : Fin 1152) (l : Fin 1792) (l' : Fin 12544) (j : ℕ) (hl : l'.val = j * 1792 + l.val) :
    ∀ (k : ℕ) (_ : k < 24) (hn : j * 24 + k < cfg1.N),
      (outsAt1 V c (j * 24 + k) hn).1 (ix2 r l : S1152x1792.Idx)
        = inM V c r l' + ∑ n ∈ Finset.range ((k + 1) * 1024), term V c r l' n
  | 0, _, hn => by
    have hl' : l'.val = (j * 24 + 0) / 24 * 1792 + l.val := by omega
    refine (point_out_first V c ⟨j * 24 + 0, hn⟩ (show (j * 24 + 0) % 24 = 0 by omega) (ix2 r l)).trans ?_
    show blkM V c ⟨j * 24 + 0, hn⟩ (ix2 r l) + stepSum _ _ r l = _
    rw [blkM_apply V c ⟨j * 24 + 0, hn⟩ r l r l' rfl hl', stepSum_eq V c ⟨j * 24 + 0, hn⟩ r l l' hl']
    simp only [show (j * 24 + 0) % 24 * 1024 = 0 by omega, Nat.zero_add, Nat.one_mul]
  | k + 1, hk, hn => by
    have hl' : l'.val = (j * 24 + (k + 1)) / 24 * 1792 + l.val := by omega
    have ih := point_out r l l' j hl k (by omega) (Nat.lt_of_succ_lt hn)
    refine (point_out_next V c ⟨j * 24 + (k + 1), hn⟩ (show ¬(j * 24 + (k + 1)) % 24 = 0 by omega) (ix2 r l)).trans ?_
    show (outsAt1 V c (j * 24 + k) _).1 (ix2 r l) + stepSum _ _ r l = _
    rw [ih, stepSum_eq V c ⟨j * 24 + (k + 1), hn⟩ r l l' hl', add_assoc,
      show (k + 1 + 1) * 1024 = (k + 1) * 1024 + 1024 by omega, Finset.sum_range_add]
    simp only [show (j * 24 + (k + 1)) % 24 * 1024 = (k + 1) * 1024 by omega]

/-- The output: main_grad plus the product over all the tokens. -/
def outFn (i : S1152x12544.Idx) : EReal :=
  inM V c (i 0) (i 1) + ∑ n : Fin 24576, inX V c (i 0) n
    * mDeq loy hiy cy (by decide) (V c main_v1) n (i 1)

theorem sum_term (r : Fin 1152) (l : Fin 12544) :
    ∑ n ∈ Finset.range 24576, term V c r l n
      = ∑ n : Fin 24576, inX V c r n * mDeq loy hiy cy (by decide) (V c main_v1) n l := by
  rw [Finset.sum_range]
  exact Finset.sum_congr rfl fun n _ => dif_pos n.2

theorem arr_out : (dat1 V c).arrAt 3 cfg1.N = outFn V c := by
  refine Pipeline.Dat.arrAt_eq_of_cover (dat1 V c) 3 (outFn V c) ?_ ?_
  · intro t ht
    have ht23 := (flush1_3 t).1 ht
    have hN := lt_N t
    obtain ⟨-, -, -, ⟨h0, h1⟩, -⟩ := idx_facts t
    show (cfg1.win 3).cut (grid1.coords t) ((dat1 V c).after 3 t) = _
    rw [after1_3]
    funext y
    obtain ⟨r, l, rfl⟩ : ∃ (r : Fin 1152) (l : Fin 1792), y = (ix2 r l : S1152x1792.Idx) := ⟨y 0, y 1, eq_ix2 y⟩
    obtain ⟨l', hl⟩ : ∃ l' : Fin 12544, l'.val = t.val / 24 * 1792 + l.val := ⟨⟨t.val / 24 * 1792 + l.val, by omega⟩, rfl⟩
    have e : t.val = t.val / 24 * 24 + 23 := by omega
    have hp := point_out V c r l l' (t.val / 24) hl 23 (by omega) (by rw [← e]; exact t.2)
    have hp' : (outsAt1 V c t.val t.isLt).1 (ix2 r l : S1152x1792.Idx)
        = inM V c r l' + ∑ n ∈ Finset.range 24576, term V c r l' n := by
      refine Eq.trans ?_ hp
      have aux : ∀ (n : ℕ) (hn : n < cfg1.N), t.val = n →
          (outsAt1 V c t.val t.isLt).1 (ix2 r l : S1152x1792.Idx) = (outsAt1 V c n hn).1 (ix2 r l : S1152x1792.Idx) := by
        intro n hn en; subst en; rfl
      exact aux _ _ e
    refine hp'.trans ?_
    rw [sum_term]
    have ei : ((cfg1.win 3).blk t).view.emb (ix2 r l : S1152x1792.Idx) = (ix2 r l' : S1152x12544.Idx) := by
      refine Shape.idx_ext₂ ?_ ?_
      · refine (win1_3.rect_emb_val t (ix2 r l : S1152x1792.Idx) (0 : Fin 2)).trans ?_
        rw [h0]; show 0 * 1152 + r.val = r.val; omega
      · refine (win1_3.rect_emb_val t (ix2 r l : S1152x1792.Idx) (1 : Fin 2)).trans ?_
        rw [h1]; exact hl.symm
    exact (congrArg (outFn V c) ei).symm
  · intro i
    have g0 : (i 0).val < 1152 := (i 0).2
    have g1 : (i 1).val < 12544 := (i 1).2
    refine ⟨⟨(i 1).val / 1792 * 24 + 23, by show _ < 168; omega⟩, (flush1_3 _).2 (by show ((i 1).val / 1792 * 24 + 23) % 24 = 23; omega), ?_⟩
    generalize ht : (⟨(i 1).val / 1792 * 24 + 23, _⟩ : Fin cfg1.N) = t
    have ht' : t.val = (i 1).val / 1792 * 24 + 23 := by rw [← ht]
    obtain ⟨-, -, -, ⟨h0, h1⟩, -⟩ := idx_facts t
    show i ∈ ((View.whole main_v3_0).slice (win1_3.rect t)).set
    rw [View.set_slice_whole, Rect.mem_set_unit]
    intro a
    match a with
    | ⟨0, _⟩ =>
      show win1_3.index t (0 : Fin 2) * 1152 ≤ (i 0).val ∧ (i 0).val < win1_3.index t (0 : Fin 2) * 1152 + 1152
      rw [h0]; omega
    | ⟨1, _⟩ =>
      show win1_3.index t (1 : Fin 2) * 1792 ≤ (i 1).val ∧ (i 1).val < win1_3.index t (1 : Fin 2) * 1792 + 1792
      rw [h1]; omega

end Cert.Region1

end
-- ==== Proof.KernelRun.lean ====
/- The kernel's run: every unscoped array ends at the contents the calls and reshapes leave, each result then a function
   of the argument arrays. -/
module

public import proofs.«01_k».proof.Proof.Region1

@[expose] public section

set_option maxRecDepth 16384

noncomputable section

namespace Cert.KernelRun

open Cert.KernelIdeal Cert.KernelIdeal.Gen
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every unscoped array ends at the last boundary's contents. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c r hr => h c _ (mem_uc r hr))

/-! ## The values -/

open Cert.Groups Cert.Blocks

theorem W1_v0 (c : Dev nD) : W1 m ρ c (Proc.devRef .tc main_v0)
    = shapeCast S24576x1152 (m ((c.tc : Thread nD τ).loc main_arg0)) shapeCasts_S6x4096x1152_S24576x1152 := by
  unfold W1
  after_results
  rfl

theorem W1_v1 (c : Dev nD) : W1 m ρ c (Proc.devRef .tc main_v1)
    = shapeCast S24576x12544 (m ((c.tc : Thread nD τ).loc main_arg1)) shapeCasts_S6x4096x12544_S24576x12544 := by
  unfold W1
  after_results
  rfl

theorem W4_v4 (c : Dev nD) : W4 m ρ c (Proc.devRef .tc main_v4)
    = shapeCast S6x4096x1152 (W3 m ρ c (Proc.devRef .tc main_v2_0)) shapeCasts_S24576x1152_S6x4096x1152 := by
  unfold W4
  after_results
  rfl

theorem W4_v5 (c : Dev nD) : W4 m ρ c (Proc.devRef .tc main_v5)
    = shapeCast S6x4096x12544 (W3 m ρ c (Proc.devRef .tc main_v3_1)) shapeCasts_S24576x12544_S6x4096x12544 := by
  unfold W4
  after_results
  rfl

end Cert.KernelRun

end
-- ==== Proof.KernelValue.lean ====
/- The kernel's five results at the ideal values, as functions of the argument arrays. -/
module

public import proofs.«01_k».proof.Proof.KernelRun

@[expose] public section

noncomputable section

namespace Cert.KernelValue

open Idealize Idealize.ShloMosaic Idealize.ShloMosaic.TcCoe Idealize.SL Idealize.SL.Sem
open Cert.KernelIdeal Cert.KernelIdeal.Gen Cert.Groups Cert.Blocks Cert.KernelRun

variable (m : (ℓ : Loc nD τ sig) → Buf (Elt Ideal) ℓ) (ρ : Dev nD → PrngReg) (c : Dev nD)

/-- x and dy, one row per token, and main_grad. -/
def argX : S24576x1152.Idx → EReal :=
  shapeCast S24576x1152 (m ((c.tc : Thread nD τ).loc main_arg0)) shapeCasts_S6x4096x1152_S24576x1152
def argY : S24576x12544.Idx → EReal :=
  shapeCast S24576x12544 (m ((c.tc : Thread nD τ).loc main_arg1)) shapeCasts_S6x4096x12544_S24576x12544
def argM : S1152x12544.Idx → EReal := m ((c.tc : Thread nD τ).loc main_arg2)

theorem V2_v1 : V2 m ρ c main_v1 = argY m c :=
  (W2_of_ne m ρ c main_v1 (by decide +kernel)).trans (W1_v1 m ρ c)

theorem V2_arg2 : V2 m ρ c main_arg2 = argM m c := W2_args m ρ c main_arg2 (by decide)

theorem V1_v0 : V1 m ρ c main_v0 = argX m c := W1_v0 m ρ c

theorem V2_v2_2 : V2 m ρ c main_v2_2
    = (fun i : S1152x24576.Idx => mDeq lox hix cx (by decide) (argX m c) (i 1) (i 0)) := by
  refine (W2_arr m ρ c 3).trans ((Region0.arr_deq (V1 m ρ) c).trans ?_)
  rw [V1_v0]

/-- The output. -/
theorem v3_0 (i : S1152x12544.Idx) : (W4 m ρ c (Proc.devRef .tc main_v3_0) : S1152x12544.Idx → EReal) i
    = argM m c i + ∑ n : Fin 24576, mDeq lox hix cx (by decide) (argX m c) n (i 0)
        * mDeq loy hiy cy (by decide) (argY m c) n (i 1) := by
  have h : W4 m ρ c (Proc.devRef .tc main_v3_0) = Region1.outFn (V2 m ρ) c :=
    (W4_of m ρ c main_v3_0 (by decide +kernel)).trans ((W3_arr m ρ c 3).trans (Region1.arr_out (V2 m ρ) c))
  refine (congrFun h i).trans ?_
  unfold Region1.outFn Region1.inM Region1.inX
  rw [V2_v1, V2_arg2, V2_v2_2]
  exact congrArg (fun j => argM m c j + _) (eq_ix2 i).symm

/-- x's codes. -/
theorem v4 : W4 m ρ c (Proc.devRef .tc main_v4)
    = shapeCast S6x4096x1152 (fun i : S24576x1152.Idx => mCode lox hix cx (by decide) (argX m c) (i 0) (i 1))
        shapeCasts_S24576x1152_S6x4096x1152 := by
  refine (W4_v4 m ρ c).trans (congrArg (fun f => shapeCast S6x4096x1152 f shapeCasts_S24576x1152_S6x4096x1152) ?_)
  refine (W3_of_ne m ρ c main_v2_0 (by decide +kernel)).trans ((W2_arr m ρ c 1).trans
    ((Region0.arr_codes (V1 m ρ) c).trans ?_))
  rw [V1_v0]

/-- x's scales. -/
theorem v2_1 : W4 m ρ c (Proc.devRef .tc main_v2_1)
    = (fun i : S192x1152.Idx => mScale (G := 192) cx (by decide) (argX m c) (i 0) (i 1)) := by
  refine (W4_of m ρ c main_v2_1 (by decide +kernel)).trans ((W3_of_ne m ρ c main_v2_1 (by decide +kernel)).trans
    ((W2_arr m ρ c 2).trans ((Region0.arr_scale (V1 m ρ) c).trans ?_)))
  rw [V1_v0]

/-- dy's codes. -/
theorem v5 : W4 m ρ c (Proc.devRef .tc main_v5)
    = shapeCast S6x4096x12544 (fun i : S24576x12544.Idx => mCode loy hiy cy (by decide) (argY m c) (i 0) (i 1))
        shapeCasts_S24576x12544_S6x4096x12544 := by
  refine (W4_v5 m ρ c).trans (congrArg (fun f => shapeCast S6x4096x12544 f shapeCasts_S24576x12544_S6x4096x12544) ?_)
  refine (W3_arr m ρ c 4).trans ((Region1.arr_codes (V2 m ρ) c).trans ?_)
  rw [V2_v1]

/-- dy's scales. -/
theorem v3_2 : W4 m ρ c (Proc.devRef .tc main_v3_2)
    = (fun i : S192x12544.Idx => mScale (G := 192) cy (by decide) (argY m c) (i 0) (i 1)) := by
  refine (W4_of m ρ c main_v3_2 (by decide +kernel)).trans ((W3_arr m ρ c 5).trans
    ((Region1.arr_scale (V2 m ρ) c).trans ?_))
  rw [V2_v1]

end Cert.KernelValue

end
-- ==== Proof.Reads.lean ====
/- The reference's reshapes, broadcasts and column maxima read at an index, at any number of groups and columns. -/
module

public import proofs.«01_k».proof.Proof.Blocks
public import Idealize.ShloMosaic.Lib.Pointwise

@[expose] public section

noncomputable section

namespace Cert.Reads

open Idealize Idealize.ShloMosaic Cert.Scale Cert.Groups Cert.Blocks

variable {α : Type} {N G C : ℕ}

/-- Rows to groups of 128 rows. -/
theorem split_apply (x : (⟨2, ![N, C]⟩ : Shape).Idx → α)
    (h : (⟨2, ![N, C]⟩ : Shape).ShapeCasts (⟨3, ![G, 128, C]⟩ : Shape)) (g : Fin G) (k : Fin 128) (l : Fin C)
    (hk : g.val * 128 + k.val < N) :
    shapeCast (⟨3, ![G, 128, C]⟩ : Shape) x h (ix3 g k l) = x (ix2 ⟨g.val * 128 + k.val, hk⟩ l) := by
  refine shapeCast_apply x h _ _ ?_
  rw [Shape.rowMajor_val_two, Shape.rowMajor_val_three]
  rfl

/-- Groups of 128 rows to rows. -/
theorem join_apply (x : (⟨3, ![G, 128, C]⟩ : Shape).Idx → α)
    (h : (⟨3, ![G, 128, C]⟩ : Shape).ShapeCasts (⟨2, ![N, C]⟩ : Shape)) (r : Fin N) (l : Fin C)
    (hg : r.val / 128 < G) :
    shapeCast (⟨2, ![N, C]⟩ : Shape) x h (ix2 r l)
      = x (ix3 ⟨r.val / 128, hg⟩ ⟨r.val % 128, Nat.mod_lt _ (by decide)⟩ l) := by
  refine shapeCast_apply x h _ _ ?_
  rw [Shape.rowMajor_val_two, Shape.rowMajor_val_three]
  show (r.val / 128 * 128 + r.val % 128) * C + l.val = r.val * C + l.val
  rw [Nat.div_add_mod']

/-- Row `r` among the groups. -/
theorem split_div (x : (⟨2, ![N, C]⟩ : Shape).Idx → α)
    (h : (⟨2, ![N, C]⟩ : Shape).ShapeCasts (⟨3, ![G, 128, C]⟩ : Shape)) (r : Fin N) (l : Fin C)
    (hg : r.val / 128 < G) :
    shapeCast (⟨3, ![G, 128, C]⟩ : Shape) x h (ix3 ⟨r.val / 128, hg⟩ ⟨r.val % 128, Nat.mod_lt _ (by decide)⟩ l)
      = x (ix2 r l) := by
  refine shapeCast_apply x h _ _ ?_
  rw [Shape.rowMajor_val_two, Shape.rowMajor_val_three]
  show r.val * C + l.val = (r.val / 128 * 128 + r.val % 128) * C + l.val
  rw [Nat.div_add_mod']

/-- One value to a group and column, read at each of the group's rows. -/
theorem spread_apply (x : (⟨2, ![G, C]⟩ : Shape).Idx → α)
    (h : (⟨2, ![G, C]⟩ : Shape).ShapeCasts (⟨3, ![G, 1, C]⟩ : Shape))
    (hb : (⟨3, ![G, 1, C]⟩ : Shape).Broadcasts (⟨3, ![G, 128, C]⟩ : Shape)) (g : Fin G) (k : Fin 128) (l : Fin C)
    (hG : G ≠ 1) (hC : C ≠ 1) :
    broadcastTo (⟨3, ![G, 128, C]⟩ : Shape) (shapeCast (⟨3, ![G, 1, C]⟩ : Shape) x h) hb (ix3 g k l) = x (ix2 g l) := by
  refine (broadcastTo_apply _ hb _ (ix3 g (0 : Fin 1) l) ?_).trans (shapeCast_apply x h _ _ ?_)
  · intro a
    match a with
    | ⟨0, _⟩ => exact (if_neg hG).symm
    | ⟨1, _⟩ => exact (if_pos rfl).symm
    | ⟨2, _⟩ => exact (if_neg hC).symm
  · rw [Shape.rowMajor_val_two, Shape.rowMajor_val_three]
    show g.val * C + l.val = (g.val * 1 + 0) * C + l.val
    rw [Nat.mul_one, Nat.add_zero]

/-- The largest magnitude of a group's column. -/
theorem colmax_apply (x : FVec Ideal (⟨2, ![N, C]⟩ : Shape) .bf16)
    (h : (⟨2, ![N, C]⟩ : Shape).ShapeCasts (⟨3, ![G, 128, C]⟩ : Shape))
    (hr : (⟨3, ![G, 128, C]⟩ : Shape).Reduces [1] (⟨2, ![G, C]⟩ : Shape)) (hφ : FKind.Formats .bf16)
    (hacc : (0xFF80#16 : BitVec (FTy.bf16).bits) = FKind.maximumf.neutral .bf16 hφ) (g : Fin G) (l : Fin C)
    (hg : g.val * 128 + 128 ≤ N) :
    multiReduction .maximumf [1] (⟨2, ![G, C]⟩ : Shape)
        (absf (shapeCast (⟨3, ![G, 128, C]⟩ : Shape) x h : FVec Ideal (⟨3, ![G, 128, C]⟩ : Shape) .bf16))
        0xFF80#16 hr hφ hacc (ix2 g l)
      = amax (colOf x g l hg) := by
  refine (Ideal.multiReduction_maximumf_single _ _ hr hφ hacc _).trans ?_
  show (Finset.univ : Finset (Fin 128)).fold max (Ideal.ofBits .bf16 0xFF80#16) _ = _
  rw [bot_bf16]
  refine congrArg (fun f => (Finset.univ : Finset (Fin 128)).fold max (⊥ : EReal) f) (funext fun (k : Fin 128) => ?_)
  have e : hr.lift (ix2 g l) k = ix3 g k l := by
    funext a
    match a with
    | ⟨0, _⟩ => exact Fin.ext rfl
    | ⟨1, _⟩ => exact Fin.ext rfl
    | ⟨2, _⟩ => exact Fin.ext rfl
  have hk : g.val * 128 + k.val < N := by have := k.2; omega
  show FloatOps.absf (shapeCast (⟨3, ![G, 128, C]⟩ : Shape) x h (hr.lift (ix2 g l) k)) = _
  rw [e, split_apply x h g k l hk]
  rfl

/-- The reference's codes, scales and dequantized values of a matrix. -/
def rScale (c : EReal) (hN : G * 128 ≤ N) (v : (⟨2, ![N, C]⟩ : Shape).Idx → EReal) (g : Fin G) (l : Fin C) : EReal :=
  scaleR (amax (colOf v g l (by have := g.2; omega)) * c)

def rCode (lo hi c : EReal) (hN : 128 ∣ N) (v : (⟨2, ![N, C]⟩ : Shape).Idx → EReal) (r : Fin N) (l : Fin C) : EReal :=
  min hi (max lo (v (ix2 r l) * invR (amax (colOf v (r / 128) l (group_le r.2 hN)) * c)))

def rDeq (lo hi c : EReal) (hN : 128 ∣ N) (v : (⟨2, ![N, C]⟩ : Shape).Idx → EReal) (r : Fin N) (l : Fin C) : EReal :=
  rCode lo hi c hN v r l * scaleR (amax (colOf v (r / 128) l (group_le r.2 hN)) * c)

end Cert.Reads

end
-- ==== Proof.RefPay.lean ====
/- The reference's vectors read at an index. -/
module

public import proofs.«01_k».proof.Proof.Reads
public import proofs.«01_k».proof.Proof.Gen.ReferenceIdeal.Frame

@[expose] public section

noncomputable section

namespace Cert.RefPay

open Idealize Idealize.ShloMosaic Cert.Scale Cert.Groups Cert.Blocks Cert.Reads Cert.ReferenceIdeal
  Cert.ReferenceIdeal.Gen

abbrev flox : EReal := Ideal.ofBits .f32 0xC3E00000#32
abbrev fhix : EReal := Ideal.ofBits .f32 0x43E00000#32
abbrev floy : EReal := Ideal.ofBits .f32 0xC7600000#32
abbrev fhiy : EReal := Ideal.ofBits .f32 0x47600000#32

section generic
variable {s : Shape}

/-- Products, at any shape. -/
theorem scaled_apply (w : FVec Ideal s .bf16) (h : FTy.bf16.bits < FTy.f32.bits) (c : BitVec 32) (j : s.Idx) :
    mulf (extf .f32 w h) (broadcast s (Scalar.ofBits (F := Ideal) .f32 c)) j = w j * Ideal.ofBits .f32 c := rfl

/-- The exponents, at any shape. -/
theorem expR_apply (w : FVec Ideal s .f32) (j : s.Idx) :
    select (andi (cmpf .oge w (broadcast s (Scalar.ofBits (F := Ideal) .f32 0x00800000#32)))
        (cmpf .olt w (broadcast s (Scalar.ofBits (F := Ideal) .f32 0x7F800000#32))))
      (addf (floor (divf (log w) (log (broadcast s (Scalar.ofBits (F := Ideal) .f32 0x40000000#32)))))
        (broadcast s (Scalar.ofBits (F := Ideal) .f32 0x3F800000#32)))
      (broadcast s (Scalar.ofBits (F := Ideal) .f32 0x00000000#32)) j
      = expR (w j) := by
  unfold expR
  pointwise

/-- The exponential of the exponents and of their opposites. -/
theorem exp2_apply (w : FVec Ideal s .f32) (j : s.Idx) : exp2 w j = Ideal.exp2 (w j) := rfl

theorem exp2_neg_apply (w : FVec Ideal s .f32) (j : s.Idx) :
    exp2 (subf (broadcast s (Scalar.ofBits (F := Ideal) .f32 0x00000000#32)) w) j = Ideal.exp2 (0 - w j) := by
  pointwise
  rfl

variable {N G C : ℕ}

/-- Codes, at any number of groups and columns. -/
theorem codes_apply {φ : FTy} (x : FVec Ideal (⟨2, ![N, C]⟩ : Shape) .bf16) (inv : FVec Ideal (⟨2, ![G, C]⟩ : Shape) .f32)
    (lo hi : BitVec 32) (h : (⟨2, ![N, C]⟩ : Shape).ShapeCasts (⟨3, ![G, 128, C]⟩ : Shape))
    (h' : (⟨3, ![G, 128, C]⟩ : Shape).ShapeCasts (⟨2, ![N, C]⟩ : Shape))
    (hs : (⟨2, ![G, C]⟩ : Shape).ShapeCasts (⟨3, ![G, 1, C]⟩ : Shape))
    (hb : (⟨3, ![G, 1, C]⟩ : Shape).Broadcasts (⟨3, ![G, 128, C]⟩ : Shape))
    (hw : FTy.bf16.bits < FTy.f32.bits) (ht : φ.bits < FTy.f32.bits)
    (r : Fin N) (l : Fin C) (hg : r.val / 128 < G) (hG : G ≠ 1) (hC : C ≠ 1) :
    shapeCast (⟨2, ![N, C]⟩ : Shape) (truncf φ (minimumf (broadcast (⟨3, ![G, 128, C]⟩ : Shape) (Scalar.ofBits (F := Ideal) .f32 hi))
        (maximumf (broadcast (⟨3, ![G, 128, C]⟩ : Shape) (Scalar.ofBits (F := Ideal) .f32 lo))
          (mulf (extf .f32 (shapeCast (⟨3, ![G, 128, C]⟩ : Shape) x h) hw)
            (broadcastTo (⟨3, ![G, 128, C]⟩ : Shape) (shapeCast (⟨3, ![G, 1, C]⟩ : Shape) inv hs) hb)))) ht) h' (ix2 r l)
      = min (Ideal.ofBits .f32 hi) (max (Ideal.ofBits .f32 lo) (x (ix2 r l) * inv (ix2 ⟨r.val / 128, hg⟩ l))) := by
  refine (join_apply _ h' r l hg).trans ?_
  have e : shapeCast (⟨3, ![G, 128, C]⟩ : Shape) x h (ix3 ⟨r.val / 128, hg⟩ ⟨r.val % 128, Nat.mod_lt _ (by decide)⟩ l)
      = x (ix2 r l) := split_div x h r l hg
  rw [← e, ← spread_apply inv hs hb ⟨r.val / 128, hg⟩ ⟨r.val % 128, Nat.mod_lt _ (by decide)⟩ l hG hC]
  rfl

/-- Dequantized values, at any number of groups and columns. -/
theorem deq_apply {φ : FTy} (x : FVec Ideal (⟨2, ![N, C]⟩ : Shape) φ) (sc : FVec Ideal (⟨2, ![G, C]⟩ : Shape) .f32)
    (h : (⟨2, ![N, C]⟩ : Shape).ShapeCasts (⟨3, ![G, 128, C]⟩ : Shape))
    (h' : (⟨3, ![G, 128, C]⟩ : Shape).ShapeCasts (⟨2, ![N, C]⟩ : Shape))
    (hs : (⟨2, ![G, C]⟩ : Shape).ShapeCasts (⟨3, ![G, 1, C]⟩ : Shape))
    (hb : (⟨3, ![G, 1, C]⟩ : Shape).Broadcasts (⟨3, ![G, 128, C]⟩ : Shape))
    (hw : φ.bits < FTy.bf16.bits) (ht : FTy.bf16.bits < FTy.f32.bits)
    (r : Fin N) (l : Fin C) (hg : r.val / 128 < G) (hG : G ≠ 1) (hC : C ≠ 1) :
    shapeCast (⟨2, ![N, C]⟩ : Shape) (mulf (shapeCast (⟨3, ![G, 128, C]⟩ : Shape) (extf .bf16 x hw) h)
        (broadcastTo (⟨3, ![G, 128, C]⟩ : Shape) (shapeCast (⟨3, ![G, 1, C]⟩ : Shape) (truncf .bf16 sc ht) hs) hb)) h' (ix2 r l)
      = (x (ix2 r l) : EReal) * sc (ix2 ⟨r.val / 128, hg⟩ l) := by
  refine (join_apply _ h' r l hg).trans ?_
  have e : shapeCast (⟨3, ![G, 128, C]⟩ : Shape) (extf (F := Ideal) .bf16 x hw) h
      (ix3 ⟨r.val / 128, hg⟩ ⟨r.val % 128, Nat.mod_lt _ (by decide)⟩ l) = x (ix2 r l) := split_div x h r l hg
  have e2 := spread_apply (truncf (F := Ideal) .bf16 sc ht) hs hb ⟨r.val / 128, hg⟩
    ⟨r.val % 128, Nat.mod_lt _ (by decide)⟩ l hG hC
  exact congrArg₂ (fun a b : EReal => a * b) e e2

end generic

theorem pay1_eq (v : Vec Ideal S24576x1152 .bf16) :
    k0_pay1 (F := Ideal) v = shapeCast S192x128x1152 v shapeCasts_S24576x1152_S192x128x1152 := by
  unfold k0_pay1
  dsimp only
  rw [shapeCast_self]

theorem pay5_eq (v : Vec Ideal S24576x12544 .bf16) :
    k0_pay5 (F := Ideal) v = shapeCast S192x128x12544 v shapeCasts_S24576x12544_S192x128x12544 := by
  unfold k0_pay5
  dsimp only
  rw [shapeCast_self]

theorem pay7_apply (w : FVec Ideal S192x12544 .f32) (j : S192x12544.Idx) :
    k0_pay7 (F := Ideal) w j = expR (w j) := by
  unfold k0_pay7
  exact expR_apply w j

theorem pay6_apply (v : Vec Ideal S24576x12544 .bf16) (g : Fin 192) (l : Fin 12544) (hg : g.val * 128 + 128 ≤ 24576) :
    k0_pay6 (F := Ideal) v (ix2 g l) = amax (colOf v g l hg) * cy := by
  unfold k0_pay6
  rw [pay5_eq]
  refine (scaled_apply _ _ _ _).trans (congrArg (fun a : EReal => a * cy) ?_)
  exact colmax_apply v shapeCasts_S24576x12544_S192x128x12544 reduces_S192x128x12544_S192x12544 (.inr rfl) rfl g l hg

/-- x's exponents from the groups' largest magnitudes. -/
theorem pay2_apply (v : Vec Ideal S24576x1152 .bf16) (g : Fin 192) (l : Fin 1152) (hg : g.val * 128 + 128 ≤ 24576) :
    k0_pay2 (F := Ideal) v (ix2 g l) = expR (amax (colOf v g l hg) * cx) := by
  unfold k0_pay2
  rw [pay1_eq]
  refine (expR_apply _ _).trans (congrArg expR ?_)
  refine (scaled_apply _ _ _ _).trans (congrArg (fun a : EReal => a * cx) ?_)
  exact colmax_apply v shapeCasts_S24576x1152_S192x128x1152 reduces_S192x128x1152_S192x1152 (.inr rfl) rfl g l hg

/-- x's scales and codes. -/
theorem pay3_apply (v : Vec Ideal S24576x1152 .bf16) (g : Fin 192) (l : Fin 1152) :
    k0_pay3 (F := Ideal) v (ix2 g l) = rScale (G := 192) cx (by decide) v g l := by
  unfold k0_pay3
  refine (exp2_apply _ _).trans ?_
  rw [pay2_apply v g l (by have := g.2; omega)]
  rfl

theorem inv4_apply (v : Vec Ideal S24576x1152 .bf16) (g : Fin 192) (l : Fin 1152) (hg : g.val * 128 + 128 ≤ 24576) :
    exp2 (subf (broadcast S192x1152 (Scalar.ofBits (F := Ideal) .f32 0x00000000#32)) (k0_pay2 v)) (ix2 g l)
      = invR (amax (colOf v g l hg) * cx) := by
  refine (exp2_neg_apply _ _).trans ?_
  rw [pay2_apply v g l hg]
  rfl

theorem pay4_apply (v : Vec Ideal S24576x1152 .bf16) (r : Fin 24576) (l : Fin 1152) :
    k0_pay4 (F := Ideal) v (ix2 r l) = rCode flox fhix cx (by decide) v r l := by
  have hg : r.val / 128 < 192 := by have := r.2; omega
  unfold k0_pay4
  rw [pay1_eq]
  refine (codes_apply (φ := .fp8e4m3) v _ _ _ _ _ _ _ _ bitsLt_fp8e4m3_f32 r l hg (by decide) (by decide)).trans ?_
  exact congrArg (fun z : EReal => min fhix (max flox (v (ix2 r l) * z)))
    (inv4_apply v ⟨r.val / 128, hg⟩ l (group_le r.2 (by decide)))

/-- dy's scales and codes. -/
theorem pay8_apply (v : Vec Ideal S24576x12544 .bf16) (g : Fin 192) (l : Fin 12544) :
    k0_pay8 (F := Ideal) (k0_pay6 v) (ix2 g l) = rScale (G := 192) cy (by decide) v g l := by
  unfold k0_pay8
  refine (exp2_apply _ _).trans ?_
  rw [pay7_apply, pay6_apply v g l (by have := g.2; omega)]
  rfl

theorem inv9_apply (v : Vec Ideal S24576x12544 .bf16) (g : Fin 192) (l : Fin 12544) (hg : g.val * 128 + 128 ≤ 24576) :
    exp2 (subf (broadcast S192x12544 (Scalar.ofBits (F := Ideal) .f32 0x00000000#32)) (k0_pay7 (k0_pay6 v))) (ix2 g l)
      = invR (amax (colOf v g l hg) * cy) := by
  refine (exp2_neg_apply _ _).trans ?_
  rw [pay7_apply, pay6_apply v g l hg]
  rfl

theorem pay9_apply (v : Vec Ideal S24576x12544 .bf16) (r : Fin 24576) (l : Fin 12544) :
    k0_pay9 (F := Ideal) (k0_pay5 v) (k0_pay6 v) (ix2 r l) = rCode floy fhiy cy (by decide) v r l := by
  have hg : r.val / 128 < 192 := by have := r.2; omega
  unfold k0_pay9
  rw [pay5_eq]
  refine (codes_apply (φ := .fp8e5m2) v _ _ _ _ _ _ _ _ bitsLt_fp8e5m2_f32 r l hg (by decide) (by decide)).trans ?_
  exact congrArg (fun z : EReal => min fhiy (max floy (v (ix2 r l) * z)))
    (inv9_apply v ⟨r.val / 128, hg⟩ l (group_le r.2 (by decide)))

/-- The output from its two factors. -/
theorem dot_apply (a : FVec Ideal S24576x1152 .bf16) (b : FVec Ideal S24576x12544 .bf16) (w : FVec Ideal S1152x12544 .f32)
    (i : Fin 1152) (j : Fin 12544) :
    addf w (matmul dot_S1152x24576_S24576x12544_S1152x12544_1_0_0_1_n_n none
      (transpose S1152x24576 [1, 0] a transposes_S24576x1152_p1_0_S1152x24576) b
      (constant (F := Ideal) S1152x12544 .f32 0x00000000#32)) (ix2 i j)
      = w (ix2 i j) + ∑ n : Fin 24576, a (ix2 n i) * b (ix2 n j) := by
  pointwise

theorem pay10_apply (v : Vec Ideal S24576x1152 .bf16) (u : Vec Ideal S24576x12544 .bf16) (w : Vec Ideal S1152x12544 .f32)
    (i : Fin 1152) (j : Fin 12544) :
    k0_pay10 (F := Ideal) (k0_pay3 v) (k0_pay4 v) (k0_pay5 u) (k0_pay6 u) w (ix2 i j)
      = w (ix2 i j) + ∑ n : Fin 24576, rDeq flox fhix cx (by decide) v n i * rDeq floy fhiy cy (by decide) u n j := by
  unfold k0_pay10
  refine (dot_apply _ _ _ i j).trans (congrArg (fun z : EReal => w (ix2 i j) + z) (Finset.sum_congr rfl fun n _ => ?_))
  have hg : n.val / 128 < 192 := by have := n.2; omega
  refine congrArg₂ (fun a b : EReal => a * b)
    ((deq_apply (φ := .fp8e4m3) (k0_pay4 v) _ _ _ _ _ bitsLt_fp8e4m3_bf16 _ n i hg (by decide) (by decide)).trans ?_)
    ((deq_apply (φ := .fp8e5m2) (k0_pay9 (k0_pay5 u) (k0_pay6 u)) _ _ _ _ _ bitsLt_fp8e5m2_bf16 _ n j hg (by decide) (by decide)).trans ?_)
  · rw [pay4_apply, pay3_apply]
    rfl
  · rw [pay9_apply, pay8_apply]
    rfl

end Cert.RefPay

end
-- ==== Proof.RefValue.lean ====
/- The reference's run, and its five results at the ideal values as functions of the argument arrays. -/
module

public import proofs.«01_k».proof.Proof.RefPay

@[expose] public section

set_option maxRecDepth 16384

noncomputable section

namespace Cert.RefValue

open Idealize Idealize.ShloMosaic Idealize.ShloMosaic.TcCoe Idealize.ShloMosaic.Tactic Idealize.SL Idealize.SL.Sem
open Cert.ReferenceIdeal Cert.ReferenceIdeal.Gen Cert.Groups Cert.Blocks Cert.Reads Cert.RefPay

variable (m : (ℓ : Loc nD τ sig) → Buf (Elt Ideal) ℓ) (ρ : Dev nD → PrngReg) (c : Dev nD)

/-- x and dy, one row per token, and main_grad. -/
def argX : S24576x1152.Idx → EReal :=
  shapeCast S24576x1152 (m ((c.tc : Thread nD τ).loc main_arg0)) shapeCasts_S6x4096x1152_S24576x1152
def argY : S24576x12544.Idx → EReal :=
  shapeCast S24576x12544 (m ((c.tc : Thread nD τ).loc main_arg1)) shapeCasts_S6x4096x12544_S24576x12544
def argM : S1152x12544.Idx → EReal := m ((c.tc : Thread nD τ).loc main_arg2)

theorem V_v0 : V m c main_v0 = argX m c := by
  unfold argX
  show StableHlo.after (List.flatten [hostOps0]) (fun b => m (c, b)) (Proc.devRef .tc main_v0) = _
  simp only [List.flatten_cons, List.flatten_nil, List.append_nil]
  after_results
  rfl

theorem V_v1 : V m c main_v1 = argY m c := by
  unfold argY
  show StableHlo.after (List.flatten [hostOps0]) (fun b => m (c, b)) (Proc.devRef .tc main_v1) = _
  simp only [List.flatten_cons, List.flatten_nil, List.append_nil]
  after_results
  rfl

theorem iblk_x (t : Fin cfg0.N) : (iblk m c 0 t : S24576x1152.Idx → EReal) = argX m c := by
  rw [← V_v0]
  funext y
  refine congrArg (V m c main_v0) (Shape.idx_ext₂ ?_ ?_)
  · exact (win0_0.rect_emb_val t y (0 : Fin 2)).trans (by show 0 * 24576 + _ = _; omega)
  · exact (win0_0.rect_emb_val t y (1 : Fin 2)).trans (by show 0 * 1152 + _ = _; omega)

theorem iblk_y (t : Fin cfg0.N) : (iblk m c 1 t : S24576x12544.Idx → EReal) = argY m c := by
  rw [← V_v1]
  funext y
  refine congrArg (V m c main_v1) (Shape.idx_ext₂ ?_ ?_)
  · exact (win0_1.rect_emb_val t y (0 : Fin 2)).trans (by show 0 * 24576 + _ = _; omega)
  · exact (win0_1.rect_emb_val t y (1 : Fin 2)).trans (by show 0 * 12544 + _ = _; omega)

theorem iblk_m (t : Fin cfg0.N) : (iblk m c 2 t : S1152x12544.Idx → EReal) = argM m c := by
  unfold argM
  rw [← V_main_arg2 m c]
  funext y
  refine congrArg (V m c main_arg2) (Shape.idx_ext₂ ?_ ?_)
  · exact (win0_2.rect_emb_val t y (0 : Fin 2)).trans (by show 0 * 1152 + _ = _; omega)
  · exact (win0_2.rect_emb_val t y (1 : Fin 2)).trans (by show 0 * 12544 + _ = _; omega)

/-! ## What the body stores -/

section
variable (v : Vec Ideal S24576x1152 .bf16) (u : Vec Ideal S24576x12544 .bf16) (w : Vec Ideal S1152x12544 .f32)

theorem zero2 : (![0, 0] : Fin 2 → ℕ) = fun _ => 0 := by funext a; fin_cases a <;> rfl

theorem ld_x : View.ld v r0_0 = v := View.ld_unit_zero zero2 _ _
theorem ld_y : View.ld u r0_1 = u := View.ld_unit_zero zero2 _ _
theorem ld_m : View.ld w r0_2 = w := View.ld_unit_zero zero2 _ _

theorem out0_3_apply (y : S1152x12544.Idx) : out0_3 v u w y = w (ix2 (y 0) (y 1)) + ∑ n : Fin 24576, rDeq flox fhix cx (by decide) (v) n (y 0) * rDeq floy fhiy cy (by decide) (u) n (y 1) := by
  unfold out0_3 k0_pay14 k0_pay13 k0_pay12 k0_pay11
  rw [ld_x, ld_y, ld_m, View.canon_unit_zero zero2]
  exact (congrArg _ (eq_ix2 y)).trans (pay10_apply v u w (y 0) (y 1))

theorem out0_4_apply (y : S24576x1152.Idx) : out0_4 v u w y = rCode flox fhix cx (by decide) (v) (y 0) (y 1) := by
  unfold out0_4 k0_pay12
  rw [ld_x, View.canon_unit_zero zero2]
  exact (congrArg _ (eq_ix2 y)).trans (pay4_apply v (y 0) (y 1))

theorem out0_5_apply (y : S192x1152.Idx) : out0_5 v u w y = rScale (G := 192) cx (by decide) (v) (y 0) (y 1) := by
  unfold out0_5 k0_pay11
  rw [ld_x, View.canon_unit_zero zero2]
  exact (congrArg _ (eq_ix2 y)).trans (pay3_apply v (y 0) (y 1))

theorem out0_6_apply (y : S24576x12544.Idx) : out0_6 v u w y = rCode floy fhiy cy (by decide) (u) (y 0) (y 1) := by
  unfold out0_6 k0_pay14 k0_pay13
  rw [ld_y, View.canon_unit_zero zero2]
  exact (congrArg _ (eq_ix2 y)).trans (pay9_apply u (y 0) (y 1))

theorem out0_7_apply (y : S192x12544.Idx) : out0_7 v u w y = rScale (G := 192) cy (by decide) (u) (y 0) (y 1) := by
  unfold out0_7 k0_pay14
  rw [ld_y, View.canon_unit_zero zero2]
  exact (congrArg _ (eq_ix2 y)).trans (pay8_apply u (y 0) (y 1))

end

/-! ## The arrays -/

theorem arr_out : (dats m 0 c).arrAt 3 cfg0.N = (fun i : S1152x12544.Idx => argM m c (ix2 (i 0) (i 1)) + ∑ n : Fin 24576, rDeq flox fhix cx (by decide) (argX m c) n (i 0) * rDeq floy fhiy cy (by decide) (argY m c) n (i 1)) := by
  refine Pipeline.Dat.arrAt_eq_of_cover (dats m 0 c) 3 (fun i : S1152x12544.Idx => argM m c (ix2 (i 0) (i 1)) + ∑ n : Fin 24576, rDeq flox fhix cx (by decide) (argX m c) n (i 0) * rDeq floy fhiy cy (by decide) (argY m c) n (i 1)) ?_ ?_
  · intro t _
    show (cfg0.win 3).cut (grid0.coords t) ((dats m 0 c).after 3 t) = _
    rw [after0_3, iblk_x, iblk_y, iblk_m]
    funext y
    have e : (win0_3.rect t).emb y = y := Shape.idx_ext₂
      ((win0_3.rect_emb_val t y (0 : Fin 2)).trans (by show 0 * 1152 + _ = _; omega))
      ((win0_3.rect_emb_val t y (1 : Fin 2)).trans (by show 0 * 12544 + _ = _; omega))
    refine (out0_3_apply _ _ _ y).trans ?_
    exact (congrArg (fun i : S1152x12544.Idx => argM m c (ix2 (i 0) (i 1)) + ∑ n : Fin 24576, rDeq flox fhix cx (by decide) (argX m c) n (i 0) * rDeq floy fhiy cy (by decide) (argY m c) n (i 1)) e).symm
  · intro i
    refine ⟨⟨0, by decide⟩, flush0_3 _, ?_⟩
    generalize (⟨0, _⟩ : Fin cfg0.N) = t
    have g0 : (i 0).val < 1152 := (i 0).2
    have g1 : (i 1).val < 12544 := (i 1).2
    show i ∈ ((View.whole main_v2_0).slice (win0_3.rect t)).set
    rw [View.set_slice_whole, Rect.mem_set_unit]
    intro a
    match a with
    | ⟨0, _⟩ => show 0 * 1152 ≤ (i 0).val ∧ (i 0).val < 0 * 1152 + 1152; omega
    | ⟨1, _⟩ => show 0 * 12544 ≤ (i 1).val ∧ (i 1).val < 0 * 12544 + 12544; omega

theorem arr_xcodes : (dats m 0 c).arrAt 4 cfg0.N = (fun i : S24576x1152.Idx => rCode flox fhix cx (by decide) (argX m c) (i 0) (i 1)) := by
  refine Pipeline.Dat.arrAt_eq_of_cover (dats m 0 c) 4 (fun i : S24576x1152.Idx => rCode flox fhix cx (by decide) (argX m c) (i 0) (i 1)) ?_ ?_
  · intro t _
    show (cfg0.win 4).cut (grid0.coords t) ((dats m 0 c).after 4 t) = _
    rw [after0_4, iblk_x, iblk_y, iblk_m]
    funext y
    have e : (win0_4.rect t).emb y = y := Shape.idx_ext₂
      ((win0_4.rect_emb_val t y (0 : Fin 2)).trans (by show 0 * 24576 + _ = _; omega))
      ((win0_4.rect_emb_val t y (1 : Fin 2)).trans (by show 0 * 1152 + _ = _; omega))
    refine (out0_4_apply _ _ _ y).trans ?_
    exact (congrArg (fun i : S24576x1152.Idx => rCode flox fhix cx (by decide) (argX m c) (i 0) (i 1)) e).symm
  · intro i
    refine ⟨⟨0, by decide⟩, flush0_4 _, ?_⟩
    generalize (⟨0, _⟩ : Fin cfg0.N) = t
    have g0 : (i 0).val < 24576 := (i 0).2
    have g1 : (i 1).val < 1152 := (i 1).2
    show i ∈ ((View.whole main_v2_1).slice (win0_4.rect t)).set
    rw [View.set_slice_whole, Rect.mem_set_unit]
    intro a
    match a with
    | ⟨0, _⟩ => show 0 * 24576 ≤ (i 0).val ∧ (i 0).val < 0 * 24576 + 24576; omega
    | ⟨1, _⟩ => show 0 * 1152 ≤ (i 1).val ∧ (i 1).val < 0 * 1152 + 1152; omega

theorem arr_xscale : (dats m 0 c).arrAt 5 cfg0.N = (fun i : S192x1152.Idx => rScale (G := 192) cx (by decide) (argX m c) (i 0) (i 1)) := by
  refine Pipeline.Dat.arrAt_eq_of_cover (dats m 0 c) 5 (fun i : S192x1152.Idx => rScale (G := 192) cx (by decide) (argX m c) (i 0) (i 1)) ?_ ?_
  · intro t _
    show (cfg0.win 5).cut (grid0.coords t) ((dats m 0 c).after 5 t) = _
    rw [after0_5, iblk_x, iblk_y, iblk_m]
    funext y
    have e : (win0_5.rect t).emb y = y := Shape.idx_ext₂
      ((win0_5.rect_emb_val t y (0 : Fin 2)).trans (by show 0 * 192 + _ = _; omega))
      ((win0_5.rect_emb_val t y (1 : Fin 2)).trans (by show 0 * 1152 + _ = _; omega))
    refine (out0_5_apply _ _ _ y).trans ?_
    exact (congrArg (fun i : S192x1152.Idx => rScale (G := 192) cx (by decide) (argX m c) (i 0) (i 1)) e).symm
  · intro i
    refine ⟨⟨0, by decide⟩, flush0_5 _, ?_⟩
    generalize (⟨0, _⟩ : Fin cfg0.N) = t
    have g0 : (i 0).val < 192 := (i 0).2
    have g1 : (i 1).val < 1152 := (i 1).2
    show i ∈ ((View.whole main_v2_2).slice (win0_5.rect t)).set
    rw [View.set_slice_whole, Rect.mem_set_unit]
    intro a
    match a with
    | ⟨0, _⟩ => show 0 * 192 ≤ (i 0).val ∧ (i 0).val < 0 * 192 + 192; omega
    | ⟨1, _⟩ => show 0 * 1152 ≤ (i 1).val ∧ (i 1).val < 0 * 1152 + 1152; omega

theorem arr_ycodes : (dats m 0 c).arrAt 6 cfg0.N = (fun i : S24576x12544.Idx => rCode floy fhiy cy (by decide) (argY m c) (i 0) (i 1)) := by
  refine Pipeline.Dat.arrAt_eq_of_cover (dats m 0 c) 6 (fun i : S24576x12544.Idx => rCode floy fhiy cy (by decide) (argY m c) (i 0) (i 1)) ?_ ?_
  · intro t _
    show (cfg0.win 6).cut (grid0.coords t) ((dats m 0 c).after 6 t) = _
    rw [after0_6, iblk_x, iblk_y, iblk_m]
    funext y
    have e : (win0_6.rect t).emb y = y := Shape.idx_ext₂
      ((win0_6.rect_emb_val t y (0 : Fin 2)).trans (by show 0 * 24576 + _ = _; omega))
      ((win0_6.rect_emb_val t y (1 : Fin 2)).trans (by show 0 * 12544 + _ = _; omega))
    refine (out0_6_apply _ _ _ y).trans ?_
    exact (congrArg (fun i : S24576x12544.Idx => rCode floy fhiy cy (by decide) (argY m c) (i 0) (i 1)) e).symm
  · intro i
    refine ⟨⟨0, by decide⟩, flush0_6 _, ?_⟩
    generalize (⟨0, _⟩ : Fin cfg0.N) = t
    have g0 : (i 0).val < 24576 := (i 0).2
    have g1 : (i 1).val < 12544 := (i 1).2
    show i ∈ ((View.whole main_v2_3).slice (win0_6.rect t)).set
    rw [View.set_slice_whole, Rect.mem_set_unit]
    intro a
    match a with
    | ⟨0, _⟩ => show 0 * 24576 ≤ (i 0).val ∧ (i 0).val < 0 * 24576 + 24576; omega
    | ⟨1, _⟩ => show 0 * 12544 ≤ (i 1).val ∧ (i 1).val < 0 * 12544 + 12544; omega

theorem arr_yscale : (dats m 0 c).arrAt 7 cfg0.N = (fun i : S192x12544.Idx => rScale (G := 192) cy (by decide) (argY m c) (i 0) (i 1)) := by
  refine Pipeline.Dat.arrAt_eq_of_cover (dats m 0 c) 7 (fun i : S192x12544.Idx => rScale (G := 192) cy (by decide) (argY m c) (i 0) (i 1)) ?_ ?_
  · intro t _
    show (cfg0.win 7).cut (grid0.coords t) ((dats m 0 c).after 7 t) = _
    rw [after0_7, iblk_x, iblk_y, iblk_m]
    funext y
    have e : (win0_7.rect t).emb y = y := Shape.idx_ext₂
      ((win0_7.rect_emb_val t y (0 : Fin 2)).trans (by show 0 * 192 + _ = _; omega))
      ((win0_7.rect_emb_val t y (1 : Fin 2)).trans (by show 0 * 12544 + _ = _; omega))
    refine (out0_7_apply _ _ _ y).trans ?_
    exact (congrArg (fun i : S192x12544.Idx => rScale (G := 192) cy (by decide) (argY m c) (i 0) (i 1)) e).symm
  · intro i
    refine ⟨⟨0, by decide⟩, flush0_7 _, ?_⟩
    generalize (⟨0, _⟩ : Fin cfg0.N) = t
    have g0 : (i 0).val < 192 := (i 0).2
    have g1 : (i 1).val < 12544 := (i 1).2
    show i ∈ ((View.whole main_v2_4).slice (win0_7.rect t)).set
    rw [View.set_slice_whole, Rect.mem_set_unit]
    intro a
    match a with
    | ⟨0, _⟩ => show 0 * 192 ≤ (i 0).val ∧ (i 0).val < 0 * 192 + 192; omega
    | ⟨1, _⟩ => show 0 * 12544 ≤ (i 1).val ∧ (i 1).val < 0 * 12544 + 12544; omega

/-! ## The reshapes after the call -/

theorem tail_v3 : Pipeline.afterTail₀ cfgs (dats m) 0 (V0 m) [hostOps1] c main_v3
    = shapeCast S6x4096x1152 (fun i : S24576x1152.Idx => rCode flox fhix cx (by decide) (argX m c) (i 0) (i 1))
        shapeCasts_S24576x1152_S6x4096x1152 := by
  refine Eq.trans ?_ (congrArg (fun f => shapeCast S6x4096x1152 f shapeCasts_S24576x1152_S6x4096x1152)
    ((Pipeline.withArrays_arr spec0 launch0.win.arr_inj c (V0 m c) (fun w => (dats m 0 c).arrAt w cfg0.N) 4).trans
      (arr_xcodes m c)))
  unfold Pipeline.afterTail₀
  simp only [List.flatten_cons, List.flatten_nil, List.append_nil]
  after_results
  rfl

theorem tail_v4 : Pipeline.afterTail₀ cfgs (dats m) 0 (V0 m) [hostOps1] c main_v4
    = shapeCast S6x4096x12544 (fun i : S24576x12544.Idx => rCode floy fhiy cy (by decide) (argY m c) (i 0) (i 1))
        shapeCasts_S24576x12544_S6x4096x12544 := by
  refine Eq.trans ?_ (congrArg (fun f => shapeCast S6x4096x12544 f shapeCasts_S24576x12544_S6x4096x12544)
    ((Pipeline.withArrays_arr spec0 launch0.win.arr_inj c (V0 m c) (fun w => (dats m 0 c).arrAt w cfg0.N) 6).trans
      (arr_ycodes m c)))
  unfold Pipeline.afterTail₀
  simp only [List.flatten_cons, List.flatten_nil, List.append_nil]
  after_results
  rfl

/-- What every final state holds. -/
def Final (r : PUnit × MemSt nD τ sig (Elt Ideal)) (c : Dev nD) : Prop :=
  r.2.mem ((c.tc : Thread nD τ).loc main_v2_0)
      = (fun i : S1152x12544.Idx => argM m c (ix2 (i 0) (i 1)) + ∑ n : Fin 24576,
          rDeq flox fhix cx (by decide) (argX m c) n (i 0) * rDeq floy fhiy cy (by decide) (argY m c) n (i 1))
    ∧ r.2.mem ((c.tc : Thread nD τ).loc main_v3)
      = shapeCast S6x4096x1152 (fun i : S24576x1152.Idx => rCode flox fhix cx (by decide) (argX m c) (i 0) (i 1))
        shapeCasts_S24576x1152_S6x4096x1152
    ∧ r.2.mem ((c.tc : Thread nD τ).loc main_v2_2)
      = (fun i : S192x1152.Idx => rScale (G := 192) cx (by decide) (argX m c) (i 0) (i 1))
    ∧ r.2.mem ((c.tc : Thread nD τ).loc main_v4)
      = shapeCast S6x4096x12544 (fun i : S24576x12544.Idx => rCode floy fhiy cy (by decide) (argY m c) (i 0) (i 1))
        shapeCasts_S24576x12544_S6x4096x12544
    ∧ r.2.mem ((c.tc : Thread nD τ).loc main_v2_4)
      = (fun i : S192x12544.Idx => rScale (G := 192) cy (by decide) (argY m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

theorem run : θ_run defs (onTc (τ := τ) (main (F := Ideal))) ⟨m, fun _ => 0, ρ⟩ (fun r => ∀ c : Dev nD, Final m r c) :=
  (θ_run defs _ _).mono (fun _ h c =>
    ⟨((h c).1 3).trans (arr_out m c),
      ((h c).2 main_v3 (Pipeline.mem_restRefs_of main_v3 (by decide) (by decide))).trans (tail_v3 m c),
      ((h c).1 5).trans (arr_xscale m c),
      ((h c).2 main_v4 (Pipeline.mem_restRefs_of main_v4 (by decide) (by decide))).trans (tail_v4 m c),
      ((h c).1 7).trans (arr_yscale m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.RefValue

end
-- ==== Proof.Equation.lean ====
/- The kernel's results are the reference's. -/
module

public import proofs.«01_k».proof.Defs
public import proofs.«01_k».proof.Proof.KernelValue
public import proofs.«01_k».proof.Proof.RefValue
public import proofs.«01_k».proof.Proof.Gen.Pre_bf16_values

@[expose] public section

noncomputable section

namespace Cert.Equation

open Idealize Idealize.ShloMosaic Idealize.ShloMosaic.TcCoe Idealize.SL Idealize.SL.Sem
open Cert.Scale Cert.Groups Cert.Blocks Cert.Reads Cert.RefPay

/-! ## A matrix of bfloat16 values quantizes alike on both sides -/

section
variable {N C G : ℕ} (v : (⟨2, ![N, C]⟩ : Shape).Idx → EReal) (h : ∀ i, InRange (v i))
include h

theorem code_x (hN : 128 ∣ N) (r : Fin N) (l : Fin C) :
    mCode lox hix cx hN v r l = rCode flox fhix cx hN v r l := by
  unfold mCode rCode qCode
  rw [(column_eq_x (colOf v (r / 128) l (group_le r.2 hN)) fun k => h _).2, show hix = fhix from hi_x, show lox = flox from lo_x]

theorem code_y (hN : 128 ∣ N) (r : Fin N) (l : Fin C) :
    mCode loy hiy cy hN v r l = rCode floy fhiy cy hN v r l := by
  unfold mCode rCode qCode
  rw [(column_eq_y (colOf v (r / 128) l (group_le r.2 hN)) fun k => h _).2, show hiy = fhiy from hi_y, show loy = floy from lo_y]

theorem deq_x (hN : 128 ∣ N) (r : Fin N) (l : Fin C) :
    mDeq lox hix cx hN v r l = rDeq flox fhix cx hN v r l := by
  unfold mDeq rDeq qScale
  rw [(column_eq_x (colOf v (r / 128) l (group_le r.2 hN)) fun k => h _).1, code_x v h]

theorem deq_y (hN : 128 ∣ N) (r : Fin N) (l : Fin C) :
    mDeq loy hiy cy hN v r l = rDeq floy fhiy cy hN v r l := by
  unfold mDeq rDeq qScale
  rw [(column_eq_y (colOf v (r / 128) l (group_le r.2 hN)) fun k => h _).1, code_y v h]

theorem scale_x (hN : G * 128 ≤ N) (g : Fin G) (l : Fin C) : mScale cx hN v g l = rScale cx hN v g l := by
  unfold mScale rScale qScale
  exact (column_eq_x _ fun k => h _).1

theorem scale_y (hN : G * 128 ≤ N) (g : Fin G) (l : Fin C) : mScale cy hN v g l = rScale cy hN v g l := by
  unfold mScale rScale qScale
  exact (column_eq_y _ fun k => h _).1

end

/-! ## The precondition -/

theorem inRange_of (x : EReal)
    (h : IntOp.ori (Ideal.cmp .ole (max x (-x)) (Ideal.ofBits .bf16 0x7F7F#16))
      (Ideal.cmp .oeq (max x (-x)) (Ideal.ofBits .bf16 0x7F80#16)) = 1#1) : InRange x := by
  by_contra hc
  unfold InRange at hc
  push Not at hc
  have h1 : Ideal.cmp .ole (max x (-x)) (Ideal.ofBits .bf16 0x7F7F#16) = 0#1 := by
    unfold Ideal.cmp
    simp [not_le.mpr hc.1]
  have h2 : Ideal.cmp .oeq (max x (-x)) (Ideal.ofBits .bf16 0x7F80#16) = 0#1 := by
    unfold Ideal.cmp
    simp [hc.2]
  rw [h1, h2] at h
  exact absurd h (by decide)

section
variable (m : (ℓ : Loc Cert.KernelIdeal.nD Cert.KernelIdeal.τ Cert.KernelIdeal.sig) → Buf (Elt Ideal) ℓ)
  (hm : Cert.Pre_KernelIdeal_bf16_values (hPre_bf16_values := Cert.Pre_bf16_values.Gen.facts) m)
  (c : Dev Cert.KernelIdeal.nD)
include hm

theorem range_x (i) : InRange (KernelValue.argX m c i) :=
  inRange_of _ (congrFun (hm c).1 _)

theorem range_y (i) : InRange (KernelValue.argY m c i) :=
  inRange_of _ (congrFun (hm c).2 _)

end

/-! ## The claim -/

theorem algebraic : Cert.algebraic_KernelIdeal_ReferenceIdeal_pre_bf16_values
    (hKernelIdeal := Cert.KernelIdeal.Gen.facts) (hReferenceIdeal := Cert.ReferenceIdeal.Gen.facts)
    (hPre_bf16_values := Cert.Pre_bf16_values.Gen.facts) := by
  intro m g m' g' hm hargs
  have hX : ∀ c, RefValue.argX m' c = KernelValue.argX m c := fun c =>
    congrArg (fun f => shapeCast Cert.KernelIdeal.S24576x1152 f _) (hargs c).1
  have hY : ∀ c, RefValue.argY m' c = KernelValue.argY m c := fun c =>
    congrArg (fun f => shapeCast Cert.KernelIdeal.S24576x12544 f _) (hargs c).2.1
  have hM : ∀ c, RefValue.argM m' c = KernelValue.argM m c := fun c => (hargs c).2.2
  refine ⟨fun c => Cert.KernelIdeal.Gen.W4 m g c (Proc.devRef .tc Cert.KernelIdeal.main_v3_0),
    fun c => Cert.KernelIdeal.Gen.W4 m g c (Proc.devRef .tc Cert.KernelIdeal.main_v4),
    fun c => Cert.KernelIdeal.Gen.W4 m g c (Proc.devRef .tc Cert.KernelIdeal.main_v2_1),
    fun c => Cert.KernelIdeal.Gen.W4 m g c (Proc.devRef .tc Cert.KernelIdeal.main_v5),
    fun c => Cert.KernelIdeal.Gen.W4 m g c (Proc.devRef .tc Cert.KernelIdeal.main_v3_2), ?_, ?_⟩
  · refine (θ_run _ _ _).mono (fun r h c => ?_) (KernelRun.run m g)
    exact ⟨h c _ (by decide), h c _ (by decide), h c _ (by decide), h c _ (by decide), h c _ (by decide),
      (h c _ (by decide)).trans (Cert.KernelIdeal.Gen.W4_main_arg0 m g c),
      (h c _ (by decide)).trans (Cert.KernelIdeal.Gen.W4_main_arg1 m g c),
      (h c _ (by decide)).trans (Cert.KernelIdeal.Gen.W4_main_arg2 m g c)⟩
  · refine (θ_run _ _ _).mono (fun r h c => ?_) (RefValue.run m' g')
    obtain ⟨h0, h1, h2, h3, h4, ha0, ha1, ha2⟩ := h c
    refine ⟨h0.trans ?_, h1.trans ?_, h2.trans ?_, h3.trans ?_, h4.trans ?_, ha0, ha1, ha2⟩
    · funext i
      refine Eq.trans ?_ (KernelValue.v3_0 m g c i).symm
      rw [hX, hY, hM]
      refine congrArg₂ (fun a b : EReal => a + b) (congrArg (KernelValue.argM m c) (eq_ix2 i).symm)
        (Finset.sum_congr rfl fun n _ => ?_)
      exact congrArg₂ (fun a b : EReal => a * b) (deq_x _ (range_x m hm c) _ _ _).symm (deq_y _ (range_y m hm c) _ _ _).symm
    · refine Eq.trans ?_ (KernelValue.v4 m g c).symm
      rw [hX]
      refine congrArg (fun f => shapeCast Cert.KernelIdeal.S6x4096x1152 f _) (funext fun i => ?_)
      exact (code_x _ (range_x m hm c) _ _ _).symm
    · refine Eq.trans ?_ (KernelValue.v2_1 m g c).symm
      rw [hX]
      exact funext fun i => (scale_x _ (range_x m hm c) _ _ _).symm
    · refine Eq.trans ?_ (KernelValue.v5 m g c).symm
      rw [hY]
      refine congrArg (fun f => shapeCast Cert.KernelIdeal.S6x4096x12544 f _) (funext fun i => ?_)
      exact (code_y _ (range_y m hm c) _ _ _).symm
    · refine Eq.trans ?_ (KernelValue.v3_2 m g c).symm
      rw [hY]
      exact funext fun i => (scale_y _ (range_y m hm c) _ _ _).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_bf16_values
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_bf16_values.Gen.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, trivial, Cert.Equation.algebraic⟩

end Cert.Proof

end
